-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S2x128x256 : Shape := ⟨3, ![2, 128, 256]⟩
abbrev S12 : Shape := ⟨1, ![12]⟩
abbrev S_ : Shape := ⟨0, ![]⟩
abbrev S1 : Shape := ⟨1, ![1]⟩
abbrev S1x128x256 : Shape := ⟨3, ![1, 128, 256]⟩
abbrev S128x256 : Shape := ⟨2, ![128, 256]⟩

abbrev nBuf : Space → Nat
  | .hbm => 3
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .f32⟩
  | .local _ .vmem, ⟨0, _⟩ => ⟨S512x256, .bf16⟩
  | .local _ .vmem, ⟨1, _⟩ => ⟨S256x512, .bf16⟩
  | .local _ .vmem, ⟨2, _⟩ => ⟨S512x512, .f32⟩
  | .local _ .vmem, ⟨3, _⟩ => ⟨S512x512, .bf16⟩
  | .local _ .vmem, ⟨4, _⟩ => ⟨S2x128x256, .bf16⟩
  | .local _ .vmem, ⟨5, _⟩ => ⟨S2x128x256, .bf16⟩
  | .local _ .vmem, ⟨6, _⟩ => ⟨S2x128x256, .bf16⟩
  | .local _ .vmem, ⟨7, _⟩ => ⟨S2x128x256, .bf16⟩
  | .local _ .vmem, ⟨8, _⟩ => ⟨S2x128x256, .bf16⟩
  | .local _ .vmem, ⟨9, _⟩ => ⟨S2x128x256, .bf16⟩
  | .local _ .vmem, ⟨10, _⟩ => ⟨S2x128x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c128_i32 : BitVec 32 := 128#32
  let v52 : BitVec 32 := Scalar.muli v13 c128_i32
  let c0_i32_45 : BitVec 32 := 0#32
  ![v52.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_41 : BitVec 32 := 1#32
  let v58 : BitVec 32 := Scalar.muli v13 c1_i32_41
  let v59 : BitVec 32 := Scalar.addi c0_i32_42 v58
  v59.toNat
def k0_off2 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c128_i32_33 : BitVec 32 := 128#32
  let v53 : BitVec 32 := Scalar.muli v24 c128_i32_33
  let c0_i32_53 : BitVec 32 := 0#32
  ![v53.toNat, 0]
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_49 : BitVec 32 := 1#32
  let v67 : BitVec 32 := Scalar.muli v24 c1_i32_49
  let v68 : BitVec 32 := Scalar.addi c0_i32_50 v67
  v68.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_57 : BitVec 32 := 1#32
  let v76 : BitVec 32 := Scalar.muli v35 c1_i32_57
  let v77 : BitVec 32 := Scalar.addi c0_i32_58 v76
  v77.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c128_i32_35 : BitVec 32 := 128#32
  let v55 : BitVec 32 := Scalar.muli v13 c128_i32_35
  let c256_i32 : BitVec 32 := 256#32
  ![v55.toNat, 256]
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v85 : BitVec 32 := Scalar.muli v13 c1_i32_63
  let v86 : BitVec 32 := Scalar.addi c0_i32_64 v85
  v86.toNat
def k0_off4 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c128_i32_36 : BitVec 32 := 128#32
  let v56 : BitVec 32 := Scalar.muli v24 c128_i32_36
  let c256_i32_74 : BitVec 32 := 256#32
  ![v56.toNat, 256]
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_70 : BitVec 32 := 1#32
  let v94 : BitVec 32 := Scalar.muli v24 c1_i32_70
  let v95 : BitVec 32 := Scalar.addi c0_i32_71 v94
  v95.toNat
def k0_dev9 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_77 : BitVec 32 := 1#32
  let v103 : BitVec 32 := Scalar.muli v35 c1_i32_77
  let v104 : BitVec 32 := Scalar.addi c0_i32_78 v103
  v104.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_106 : BitVec 32 := 128#32
  let v133 : BitVec 32 := Scalar.muli v2 c128_i32_106
  let v134 : Index := Scalar.indexCast v133
  let c0_107 : Index := 0#32
  ![v134.toNat, 0]
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_128 : BitVec 32 := 1#32
  let v162 : BitVec 32 := Scalar.muli v13 c1_i32_128
  let v163 : BitVec 32 := Scalar.addi c0_i32_129 v162
  v163.toNat
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_138 : BitVec 32 := 1#32
  let v172 : BitVec 32 := Scalar.muli v24 c1_i32_138
  let v173 : BitVec 32 := Scalar.addi c0_i32_139 v172
  v173.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_147 : BitVec 32 := 1#32
  let v182 : BitVec 32 := Scalar.muli v35 c1_i32_147
  let v183 : BitVec 32 := Scalar.addi c0_i32_148 v182
  v183.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_177 : BitVec 32 := 128#32
  let v213 : BitVec 32 := Scalar.muli v2 c128_i32_177
  let v214 : Index := Scalar.indexCast v213
  let c256 : Index := 256#32
  ![v214.toNat, 256]
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_195 : BitVec 32 := 1#32
  let v242 : BitVec 32 := Scalar.muli v13 c1_i32_195
  let v243 : BitVec 32 := Scalar.addi c0_i32_196 v242
  v243.toNat
def k0_dev14 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_205 : BitVec 32 := 1#32
  let v252 : BitVec 32 := Scalar.muli v24 c1_i32_205
  let v253 : BitVec 32 := Scalar.addi c0_i32_206 v252
  v253.toNat
def k0_dev15 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_214 : BitVec 32 := 1#32
  let v262 : BitVec 32 := Scalar.muli v35 c1_i32_214
  let v263 : BitVec 32 := Scalar.addi c0_i32_215 v262
  v263.toNat
def k0_off7 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c128_i32_233 : BitVec 32 := 128#32
  let v283 : BitVec 32 := Scalar.muli v24 c128_i32_233
  let v284 : Index := Scalar.indexCast v283
  let c0_234 : Index := 0#32
  ![v284.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c128_i32_248 : BitVec 32 := 128#32
  let v297 : BitVec 32 := Scalar.muli v13 c128_i32_248
  let v298 : Index := Scalar.indexCast v297
  let c0_249 : Index := 0#32
  ![v298.toNat, 0]
def k0_off9 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c128_i32_278 : BitVec 32 := 128#32
  let v325 : BitVec 32 := Scalar.muli v24 c128_i32_278
  let v326 : Index := Scalar.indexCast v325
  let c256_279 : Index := 256#32
  ![v326.toNat, 256]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c128_i32_293 : BitVec 32 := 128#32
  let v339 : BitVec 32 := Scalar.muli v13 c128_i32_293
  let v340 : Index := Scalar.indexCast v339
  let c256_294 : Index := 256#32
  ![v340.toNat, 256]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .f32⟩
  | .hbm, ⟨3, _⟩ => ⟨S1024x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Slots.lean ====
/-
# The peers, the memory blocks and the contents of the one-shot all-reduce

Four devices each hold a partial product. A device sends each other device the row block that device reduces
(phase 0), adds what it receives to its own, applies the activation, and sends the result to everybody (phase 1).
Both phases run once for each half of the columns (the chunk). A transfer is named by `Slot`: its chunk, its phase
and the direction it goes (0 to the device before, 1 to the device after, 2 to the device opposite).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds resource of the kernel's own cells: duties are named by the direction of the device that pays them. -/
abbrev UX : Type := URounds (GSem nD τ sig) (Fin 3)
/-- The pipeline library's copy of the resource beside the kernel's own. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Peers -/

/-- The device that lies in direction `d` of `c`: 0 before it, 1 after it, 2 opposite. -/
def peer (d : Fin 3) (c : Dev nD) : Dev nD := c + ![(3 : Fin 4), 1, 2] d
/-- The direction back. -/
def back (d : Fin 3) : Fin 3 := ![(1 : Fin 3), 0, 2] d

theorem back_back : ∀ d, back (back d) = d := by decide
theorem peer_back : ∀ (d : Fin 3) (c : Dev nD), peer (back d) (peer d c) = c := by decide
theorem back_peer : ∀ (d : Fin 3) (c : Dev nD), peer d (peer (back d) c) = c := by decide
theorem peer_ne : ∀ (d : Fin 3) (c : Dev nD), peer d c ≠ c := by decide
theorem peer_inj : ∀ (c : Dev nD) (d d' : Fin 3), peer d c = peer d' c → d = d' := by decide

/-- Going in direction `d` is a permutation of the devices, undone by going back. -/
def along (d : Fin 3) : Dev nD ≃ Dev nD := ⟨peer d, peer (back d), peer_back d, back_peer d⟩
/-- Turning a direction round is a permutation of the directions. -/
def turn : Fin 3 ≃ Fin 3 := ⟨back, back, back_back, back_back⟩

/-- A transfer: its chunk, its phase (0 the reduction, 1 the gathering), its direction. -/
abbrev Slot : Type := Fin 2 × Fin 2 × Fin 3
/-- The slot of the same chunk and phase in the direction back. -/
def rev (i : Slot) : Slot := (i.1, i.2.1, back i.2.2)
theorem rev_rev (i : Slot) : rev (rev i) = i := by obtain ⟨a, b, d⟩ := i; simp only [rev, back_back]

/-- The device a transfer of `c` goes to. -/
abbrev tgt (i : Slot) (c : Dev nD) : Dev nD := peer i.2.2 c

/-! ## Blocks of the shapes -/

theorem blk_inb (r : Fin 4) (h : Fin 2) : ∀ a, (![128 * r.val, 256 * h.val] : Fin 2 → ℕ) a + S128x256.size a ≤ S512x512.size a := by
  revert r h; decide
/-- The block of row block `r` and column half `h` of a 512×512 array. -/
abbrev blkR (r : Fin 4) (h : Fin 2) : Rect S512x512 := Rect.unit (s := S512x512) ![128 * r.val, 256 * h.val] S128x256.size (blk_inb r h)

theorem half_inb (h : Fin 2) : ∀ a, (![h.val, 0, 0] : Fin 3 → ℕ) a + S1x128x256.size a ≤ S2x128x256.size a := by
  revert h; decide
/-- The half of chunk `h` of a 2×128×256 buffer. -/
abbrev halfR (h : Fin 2) : Rect S2x128x256 := Rect.unit (s := S2x128x256) ![h.val, 0, 0] S1x128x256.size (half_inb h)

/-- The kernel's offset chains in closed form, each as a block's corner. -/
theorem off1_eq : ∀ c : Dev nD, k0_off1 c = ![128 * (peer 0 c).val, 256 * (0 : Fin 2).val] := by decide +kernel
theorem off2_eq : ∀ c : Dev nD, k0_off2 c 1#32 = ![128 * (peer 1 c).val, 256 * (0 : Fin 2).val]
    ∧ k0_off2 c 2#32 = ![128 * (peer 2 c).val, 256 * (0 : Fin 2).val] := by decide +kernel
theorem off3_eq : ∀ c : Dev nD, k0_off3 c = ![128 * (peer 0 c).val, 256 * (1 : Fin 2).val] := by decide +kernel
theorem off4_eq : ∀ c : Dev nD, k0_off4 c 1#32 = ![128 * (peer 1 c).val, 256 * (1 : Fin 2).val]
    ∧ k0_off4 c 2#32 = ![128 * (peer 2 c).val, 256 * (1 : Fin 2).val] := by decide +kernel
theorem off5_eq : ∀ c : Dev nD, k0_off5 c = ![128 * c.val, 256 * (0 : Fin 2).val] := by decide +kernel
theorem off6_eq : ∀ c : Dev nD, k0_off6 c = ![128 * c.val, 256 * (1 : Fin 2).val] := by decide +kernel
theorem off7_eq : ∀ c : Dev nD, k0_off7 c 1#32 = ![128 * (peer 1 c).val, 256 * (0 : Fin 2).val]
    ∧ k0_off7 c 2#32 = ![128 * (peer 2 c).val, 256 * (0 : Fin 2).val] := by decide +kernel
theorem off8_eq : ∀ c : Dev nD, k0_off8 c = ![128 * (peer 0 c).val, 256 * (0 : Fin 2).val] := by decide +kernel
theorem off9_eq : ∀ c : Dev nD, k0_off9 c 1#32 = ![128 * (peer 1 c).val, 256 * (1 : Fin 2).val]
    ∧ k0_off9 c 2#32 = ![128 * (peer 2 c).val, 256 * (1 : Fin 2).val] := by decide +kernel
theorem off10_eq : ∀ c : Dev nD, k0_off10 c = ![128 * (peer 0 c).val, 256 * (1 : Fin 2).val] := by decide +kernel

/-- The kernel's device chains in closed form. -/
theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 0 c := by decide +kernel
theorem dev5_eq : ∀ c : Dev nD, (⟨k0_dev5 c, k0_dev5_lt c⟩ : Dev nD) = peer 1 c := by decide +kernel
theorem dev6_eq : ∀ c : Dev nD, (⟨k0_dev6 c, k0_dev6_lt c⟩ : Dev nD) = peer 2 c := by decide +kernel
theorem dev7_eq : ∀ c : Dev nD, (⟨k0_dev7 c, k0_dev7_lt c⟩ : Dev nD) = peer 0 c := by decide +kernel
theorem dev8_eq : ∀ c : Dev nD, (⟨k0_dev8 c, k0_dev8_lt c⟩ : Dev nD) = peer 1 c := by decide +kernel
theorem dev9_eq : ∀ c : Dev nD, (⟨k0_dev9 c, k0_dev9_lt c⟩ : Dev nD) = peer 2 c := by decide +kernel
theorem dev10_eq : ∀ c : Dev nD, (⟨k0_dev10 c, k0_dev10_lt c⟩ : Dev nD) = peer 0 c := by decide +kernel
theorem dev11_eq : ∀ c : Dev nD, (⟨k0_dev11 c, k0_dev11_lt c⟩ : Dev nD) = peer 1 c := by decide +kernel
theorem dev12_eq : ∀ c : Dev nD, (⟨k0_dev12 c, k0_dev12_lt c⟩ : Dev nD) = peer 2 c := by decide +kernel
theorem dev13_eq : ∀ c : Dev nD, (⟨k0_dev13 c, k0_dev13_lt c⟩ : Dev nD) = peer 0 c := by decide +kernel
theorem dev14_eq : ∀ c : Dev nD, (⟨k0_dev14 c, k0_dev14_lt c⟩ : Dev nD) = peer 1 c := by decide +kernel
theorem dev15_eq : ∀ c : Dev nD, (⟨k0_dev15 c, k0_dev15_lt c⟩ : Dev nD) = peer 2 c := by decide +kernel

/-- Blocks at different places are disjoint. -/
theorem blkR_disjoint (t t' : Fin 4 × Fin 2) (h : t ≠ t') : Disjoint (blkR t.1 t.2).set (blkR t'.1 t'.2).set := by
  obtain ⟨r, k⟩ := t; obtain ⟨r', k'⟩ := t'
  rw [Finset.disjoint_left]
  intro i hi hi'
  rw [Rect.mem_set_unit] at hi hi'
  have h0 := hi 0; have h1 := hi 1; have h0' := hi' 0; have h1' := hi' 1
  simp [S128x256] at h0 h1 h0' h1'
  apply h
  have e1 : r.val = r'.val := by omega
  have e2 : k.val = k'.val := by omega
  exact Prod.ext (Fin.ext e1) (Fin.ext e2)

/-- The eight blocks cover a 512×512 array. -/
theorem blkR_cover : (Finset.univ : Finset (Fin 4 × Fin 2)).biUnion (fun t => (blkR t.1 t.2).set) = Finset.univ := by
  ext i
  simp only [Finset.mem_biUnion, Finset.mem_univ, true_and, iff_true]
  have h0 : (i 0).val < 512 := (i 0).isLt
  have h1 : (i 1).val < 512 := (i 1).isLt
  refine ⟨(⟨(i 0).val / 128, by omega⟩, ⟨(i 1).val / 256, by omega⟩), ?_⟩
  rw [Rect.mem_set_unit]
  intro a
  fin_cases a <;> simp [S128x256] <;> omega

/-- The two halves of a 2×128×256 buffer are disjoint and cover it. -/
theorem halfR_disjoint (t t' : Fin 2) (h : t ≠ t') : Disjoint (halfR t).set (halfR t').set := by
  rw [Finset.disjoint_left]
  intro i hi hi'
  rw [Rect.mem_set_unit] at hi hi'
  have h0 := hi 0; have h0' := hi' 0
  simp [S1x128x256] at h0 h0'
  apply h
  exact Fin.ext (by omega)

theorem halfR_cover : (Finset.univ : Finset (Fin 2)).biUnion (fun t => (halfR t).set) = Finset.univ := by
  ext i
  simp only [Finset.mem_biUnion, Finset.mem_univ, true_and, iff_true]
  have h0 : (i 0).val < 2 := (i 0).isLt
  have h1 : (i 1).val < 128 := (i 1).isLt
  have h2 : (i 2).val < 256 := (i 2).isLt
  refine ⟨⟨(i 0).val, h0⟩, ?_⟩
  rw [Rect.mem_set_unit]
  intro a
  fin_cases a <;> simp [S1x128x256] <;> omega

/-! ## Memrefs and semaphores -/

abbrev aM : Memref sig .tc .vmem S512x256 .bf16 := Memref.whole cc0_stg0_0
abbrev bM : Memref sig .tc .vmem S256x512 .bf16 := Memref.whole cc0_stg1_0
abbrev oM : Memref sig .tc .vmem S512x512 .f32 := Memref.whole cc0_stg2_0
/-- The partial product's buffer. -/
abbrev pM : Memref sig .tc .vmem S512x512 .bf16 := Memref.whole cc0_scratch0
/-- The buffer the gathering sends from. -/
abbrev gM : Memref sig .tc .vmem S2x128x256 .bf16 := Memref.whole cc0_scratch4

/-- The buffer on the target that a transfer of phase `ph` in direction `d` lands in. -/
def landM (ph : Fin 2) (d : Fin 3) : Memref sig .tc .vmem S2x128x256 .bf16 :=
  match ph, d with
  | 0, 0 => Memref.whole cc0_scratch2
  | 0, 1 => Memref.whole cc0_scratch1
  | 0, 2 => Memref.whole cc0_scratch3
  | 1, 0 => Memref.whole cc0_scratch6
  | 1, 1 => Memref.whole cc0_scratch5
  | 1, 2 => Memref.whole cc0_scratch7

/-- Half `h` of a 2×128×256 buffer as a 128×256 one. -/
abbrev halfM (b : Memref sig .tc .vmem S2x128x256 .bf16) (h : Fin 2) : Memref sig .tc .vmem S128x256 .bf16 :=
  (b.slice (halfR h) (fun _ => rfl)).squeeze S128x256 squeezes_S1x128x256_S128x256
/-- The block `(r, h)` of the partial product's buffer. -/
abbrev partM (r : Fin 4) (h : Fin 2) : Memref sig .tc .vmem S128x256 .bf16 := pM.slice (blkR r h) (fun _ => rfl)

/-- Where transfer `i` lands. -/
abbrev dstM (i : Slot) : Memref sig .tc .vmem S128x256 .bf16 := halfM (landM i.2.1 i.2.2) i.1
/-- What transfer `i` of device `c` reads: the target's block of the partial product, or the reduced half. -/
def srcM (i : Slot) (c : Dev nD) : Memref sig .tc .vmem S128x256 .bf16 :=
  if i.2.1 = 0 then partM (tgt i c) i.1 else halfM gM i.1

/-- The semaphore that counts transfer `i` away from its sender, and the one that counts it in at its target. -/
def sendS (i : Slot) : DmaSem sig := (⟨3 + (6 * i.1.val + 3 * i.2.1.val + i.2.2.val), by omega⟩ : Fin 27)
def recvS (i : Slot) : DmaSem sig := (⟨15 + (6 * i.1.val + 3 * i.2.1.val + i.2.2.val), by omega⟩ : Fin 27)
abbrev barS : Sem sig := (SemArray.scalar (sig.barrier 0 rfl) : Sems sig S_).sem

abbrev barCell (c : Dev nD) : GSem nD τ sig := ((c : Thread nD τ), .reg barS)
abbrev sendCell (i : Slot) (c : Dev nD) : GSem nD τ sig := ((c : Thread nD τ), .dma (sendS i))
abbrev recvCell (i : Slot) (c : Dev nD) : GSem nD τ sig := ((c : Thread nD τ), .dma (recvS i))

/-- The credit of one 128×256 transfer. -/
abbrev N : ℕ := (halfM gM 0).view.dmaCredit
theorem N_pos : 0 < N := View.dmaCredit_pos _ (by decide)

theorem amount_half (ph : Fin 2) (d : Fin 3) (h : Fin 2) : (halfM (landM ph d) h).view.dmaCredit = N := by
  fin_cases ph <;> fin_cases d <;> fin_cases h <;> rfl
theorem amount_g (h : Fin 2) : (halfM gM h).view.dmaCredit = N := by fin_cases h <;> rfl
theorem amount_part (r : Fin 4) (h : Fin 2) : (partM r h).view.dmaCredit = N := by
  fin_cases r <;> fin_cases h <;> rfl

end Cert.GemmSilu

end
-- ==== Proof.Schedule.lean ====
/-
# The contents that are exchanged and the schedule of the cells

Per device: the barrier cell takes one unit from each other device, each handing over the four halves that the
receiver will write on the payer; the twelve send cells and the twelve receive cells each take one transfer's credit.
-/
module

public import proofs.«01_k».proof.Proof.Slots

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The blocks of the two operands as they are staged on device `c`. -/
def aAt (c : Dev nD) : (cc0_stg0_0 : Ref sig .tc).ty.Contents (Elt F) :=
  (win0_0.blk (0 : Fin 1)).view.read (Elt F) (m ((c : Thread nD τ).loc main_arg0))
def bAt (c : Dev nD) : (cc0_stg1_0 : Ref sig .tc).ty.Contents (Elt F) :=
  (win0_1.blk (0 : Fin 1)).view.read (Elt F) (m ((c : Thread nD τ).loc main_arg1))

/-- The partial product of device `c`. -/
def partAt (c : Dev nD) : Vec F S512x512 .bf16 := k0_pay1 (aAt m c) (bAt m c)

/-- Block `(r, h)` of a 512×512 array. -/
def blkOf {α : Type} (X : S512x512.Idx → α) (r : Fin 4) (h : Fin 2) : S128x256.Idx → α := fun j => X ((blkR r h).emb j)

/-- A 128×256 array as a 1×128×256 one. -/
def up {α : Type} (w : S128x256.Idx → α) : S1x128x256.Idx → α :=
  fun i => w ((Shape.reshapeEquiv squeezes_S1x128x256_S128x256.numel_eq).symm i)

theorem shapeCast_up {α : Type} (w : S128x256.Idx → α) (h : S1x128x256.ShapeCasts S128x256) : shapeCast S128x256 (up w) h = w := by
  funext j
  exact congrArg w ((Shape.reshapeEquiv squeezes_S1x128x256_S128x256.numel_eq).symm_apply_apply j)

theorem up_shapeCast {α : Type} (v : S1x128x256.Idx → α) (h : S1x128x256.ShapeCasts S128x256) : up (shapeCast S128x256 v h) = v := by
  funext i
  exact congrArg v ((Shape.reshapeEquiv squeezes_S1x128x256_S128x256.numel_eq).apply_symm_apply i)

/-- What device `c` receives from direction `d` in the reduction of chunk `h`. -/
def rsIn (c : Dev nD) (h : Fin 2) (d : Fin 3) : S128x256.Idx → Elt F .bf16 := blkOf (partAt m (peer d c)) c h

/-- Device `c`'s reduced and activated block of chunk `h`, and the form in which it sends it. -/
def actAt (c : Dev nD) (h : Fin 2) : FVec F S128x256 .f32 :=
  k0_pay7 (blkOf (partAt m c) c h) (up (rsIn m c h 0)) (up (rsIn m c h 1)) (up (rsIn m c h 2))
def agAt (c : Dev nD) (h : Fin 2) : Vec F S1x128x256 .bf16 :=
  k0_pay8 (blkOf (partAt m c) c h) (up (rsIn m c h 0)) (up (rsIn m c h 1)) (up (rsIn m c h 2))

/-- What transfer `i` of device `c` carries. -/
def sent (i : Slot) (c : Dev nD) : S128x256.Idx → Elt F .bf16 :=
  if i.2.1 = 0 then blkOf (partAt m c) (tgt i c) i.1 else shapeCast S128x256 (agAt m c i.1) shapeCasts_S1x128x256_S128x256

/-- What lands from direction `d` in each phase. -/
theorem sent_rs (c : Dev nD) (h : Fin 2) (d : Fin 3) : sent m (rev (h, 0, d)) (peer d c) = rsIn m c h d := by
  refine (if_pos rfl).trans ?_
  show blkOf (partAt m (peer d c)) (peer (back d) (peer d c)) h = blkOf (partAt m (peer d c)) c h
  rw [peer_back]
theorem sent_ag (c : Dev nD) (h : Fin 2) (d : Fin 3) : up (sent m (rev (h, 1, d)) (peer d c)) = agAt m (peer d c) h := by
  have e : sent m (rev (h, 1, d)) (peer d c) = shapeCast S128x256 (agAt m (peer d c) h) shapeCasts_S1x128x256_S128x256 :=
    if_neg (by decide : ¬ (1 : Fin 2) = 0)
  rw [e]; exact up_shapeCast _ _

/-- The block `(r, h)` of device `c`'s result: its own block as reduced, another's as it came. -/
def outBlk (c : Dev nD) (r : Fin 4) (h : Fin 2) : FVec F S128x256 .f32 :=
  if r = c then actAt m c h else k0_pay9 (agAt m r h)

/-! ## Shares and payloads -/

/-- The share of its source that transfer `i` holds: the gathering's three read one source. -/
def shr (i : Slot) : PosShare TreeShare :=
  if i.2.1 = 0 then fullShare else ![fullShare.left, fullShare.right.left, fullShare.right.right] i.2.2

/-- What a transfer gives back when it has left: its source. -/
def sendPay (i : Slot) (c : Dev nD) : sProp 𝕄 := owns (c : Thread nD τ) (srcM i c) (shr i) (sent m i c)
/-- What arrives on device `c` from the direction of `i`: the half it landed in, holding what was sent. -/
def recvPay (i : Slot) (c : Dev nD) : sProp 𝕄 := owns (c : Thread nD τ) (dstM (rev i)) fullShare (sent m (rev i) (tgt i c))
/-- The half on `p` that a transfer `i` writes, at any contents. -/
def room (i : Slot) (p : Dev nD) : sProp 𝕄 := iprop(∃ X, owns (p : Thread nD τ) (dstM i) fullShare X)
/-- What the device in direction `d` of `c` hands it at the barrier: the four halves on it that `c` writes. -/
def barPay (d : Fin 3) (c : Dev nD) : sProp 𝕄 := bigSep Finset.univ fun x : Fin 2 × Fin 2 => room (F := F) (x.1, x.2, d) (peer d c)

omit [FloatOps F] in
instance room_storable (i : Slot) (p : Dev nD) : BI.Storable (upEmb : UEmb _ 𝕄) (room (F := F) i p) := by unfold room; infer_instance
omit [FloatOps F] in
instance barPay_storable (d : Fin 3) (c : Dev nD) : BI.Storable (upEmb : UEmb _ 𝕄) (barPay (F := F) d c) := by unfold barPay; infer_instance
instance sendPay_storable (i : Slot) (c : Dev nD) : BI.Storable (upEmb : UEmb _ 𝕄) (sendPay m i c) := by unfold sendPay; infer_instance
instance recvPay_storable (i : Slot) (c : Dev nD) : BI.Storable (upEmb : UEmb _ 𝕄) (recvPay m i c) := by unfold recvPay; infer_instance

/-! ## The schedule -/

/-- The slot that number `k` of an array of twelve semaphores stands for. -/
def slotOf (k : ℕ) : Slot := (⟨k / 6 % 2, Nat.mod_lt _ (by decide)⟩, ⟨k / 3 % 2, Nat.mod_lt _ (by decide)⟩, ⟨k % 3, Nat.mod_lt _ (by decide)⟩)

theorem slotOf_send : ∀ i : Slot, (sendS i).val < 15 ∧ 3 ≤ (sendS i).val ∧ slotOf ((sendS i).val - 3) = i := by decide +kernel
theorem slotOf_recv : ∀ i : Slot, ¬ (recvS i).val < 15 ∧ 3 ≤ (recvS i).val ∧ slotOf ((recvS i).val - 15) = i := by decide +kernel

/-- The duties of a cell: the barrier has three, the cells of the transfers one. -/
def dutiesOf (g : GSem nD τ sig) (r : ℕ) : Finset (Fin 3) :=
  if r = 0 ∧ g.1.2 = .tc then (match g.2 with | .reg _ => Finset.univ | .dma k => if 3 ≤ k.val then {0} else ∅) else ∅

/-- One round. A payer of the barrier cell names its duty by the direction it signals in; a transfer pays duty 0. -/
def sched : Rounds.Schedule (GSem nD τ sig) (Fin 3) 𝕄 where
  duties := dutiesOf
  unitless _ := False
  amount g _ _ := match g.2 with | .reg _ => 1 | .dma _ => N
  payload g _ d := match g.2 with
    | .reg _ => barPay (back d) g.1.1
    | .dma k => if k.val < 15 then sendPay m (slotOf (k.val - 3)) g.1.1 else recvPay m (slotOf (k.val - 15)) g.1.1
  amount_pos g _ _ _ := by
    rcases g with ⟨_, s | s⟩
    · exact Nat.one_pos
    · exact N_pos

instance sched_storable (g : GSem nD τ sig) (r : ℕ) (d : Fin 3) : BI.Storable (upEmb : UEmb _ 𝕄) ((sched (F := F) m).payload g r d) := by
  rcases g with ⟨t, s | s⟩
  · exact barPay_storable (back d) t.1
  · show BI.Storable upEmb (if s.val < 15 then sendPay m (slotOf (s.val - 3)) t.1 else recvPay m (slotOf (s.val - 15)) t.1)
    split <;> infer_instance

section Sched
variable (i : Slot) (c : Dev nD) (d : Fin 3)

theorem duties_bar : (sched m).duties (barCell c) 0 = Finset.univ := by
  show dutiesOf (barCell c) 0 = _; exact if_pos ⟨rfl, rfl⟩
theorem duties_send : (sched m).duties (sendCell i c) 0 = {0} := by
  show dutiesOf (sendCell i c) 0 = _; exact (if_pos ⟨rfl, rfl⟩).trans (if_pos (slotOf_send i).2.1)
theorem duties_recv : (sched m).duties (recvCell i c) 0 = {0} := by
  show dutiesOf (recvCell i c) 0 = _; exact (if_pos ⟨rfl, rfl⟩).trans (if_pos (slotOf_recv i).2.1)
theorem duties_later (g : GSem nD τ sig) : ∀ r, 1 ≤ r → (sched m).duties g r = ∅ :=
  fun r hr => show dutiesOf _ _ = _ from if_neg fun h => by omega

theorem amount_bar : (sched m).amount (barCell c) 0 d = 1 := rfl
theorem amount_send : (sched m).amount (sendCell i c) 0 d = N := rfl
theorem amount_recv : (sched m).amount (recvCell i c) 0 d = N := rfl

theorem expect_bar : (sched m).expect (barCell c) 0 = 3 := by
  unfold Schedule.expect Schedule.amountOf; rw [duties_bar]; rfl
theorem expect_send : (sched m).expect (sendCell i c) 0 = N := by
  unfold Schedule.expect Schedule.amountOf; rw [duties_send, Finset.sum_singleton, amount_send]
theorem expect_recv : (sched m).expect (recvCell i c) 0 = N := by
  unfold Schedule.expect Schedule.amountOf; rw [duties_recv, Finset.sum_singleton, amount_recv]

theorem payload_bar : (sched m).payload (barCell c) 0 d = barPay (back d) c := rfl
theorem payload_send : (sched m).payload (sendCell i c) 0 d = sendPay m i c := by
  obtain ⟨h1, h2, h3⟩ := slotOf_send i
  refine (if_pos h1).trans ?_; rw [h3]
theorem payload_recv : (sched m).payload (recvCell i c) 0 d = recvPay m i c := by
  obtain ⟨h1, h2, h3⟩ := slotOf_recv i
  refine (if_neg h1).trans ?_; rw [h3]

/-- The whole of each cell's round, no duty taken before. -/
theorem rest_bar : bigSep ((sched m).duties (barCell c) 0 \ ∅) (fun d => (sched m).payload (barCell c) 0 d)
    = bigSep Finset.univ fun d => barPay d c := by
  rw [Finset.sdiff_empty, duties_bar, bigSep_univ_equiv turn (fun d => (barPay d c : sProp 𝕄))]; rfl
theorem rest_send : bigSep ((sched m).duties (sendCell i c) 0 \ ∅) (fun d => (sched m).payload (sendCell i c) 0 d) = sendPay m i c := by
  rw [Finset.sdiff_empty, duties_send, bigSep_singleton, payload_send]
theorem rest_recv : bigSep ((sched m).duties (recvCell i c) 0 \ ∅) (fun d => (sched m).payload (recvCell i c) 0 d) = recvPay m i c := by
  rw [Finset.sdiff_empty, duties_recv, bigSep_singleton, payload_recv]

end Sched

/-! ## What a device owes, and the levels of the cells -/

/-- What device `c` owes for a list of transfers it has still to start, the next one first. -/
def owe (c : Dev nD) : List Slot → CellTallies nD τ sig Unit
  | [] => 0
  | i :: l => owe c l + tallyAt (recvCell (rev i) (tgt i c)) () N

/-- The transfers of a phase and a chunk, in program order, and all of them. -/
abbrev trio (h ph : Fin 2) : List Slot := [(h, ph, 0), (h, ph, 1), (h, ph, 2)]
abbrev allSlots : List Slot := trio 0 0 ++ trio 1 0 ++ trio 0 1 ++ trio 1 1

theorem allSlots_mem : ∀ i : Slot, i ∈ allSlots := by decide
theorem allSlots_nodup : allSlots.Nodup := by decide

def O₂ (c : Dev nD) : CellTallies nD τ sig Unit := owe c allSlots + tallyAt (barCell (peer 2 c)) () 1
def O₁ (c : Dev nD) : CellTallies nD τ sig Unit := O₂ c + tallyAt (barCell (peer 1 c)) () 1
/-- What device `c` owes at launch: a unit to each other barrier cell and the credit of its twelve transfers. -/
def O₀ (c : Dev nD) : CellTallies nD τ sig Unit := O₁ c + tallyAt (barCell (peer 0 c)) () 1

def L (g : GSem nD τ sig) : Finset Unit := if g.1.2 = .tc then {()} else ∅
/-- The staging and send cells at 0, the barrier at 1, the reduction's arrivals at 2, the gathering's at 3. -/
def lv (g : GSem nD τ sig) (_ : Unit) : ℕ := match g.2 with
  | .reg _ => 1
  | .dma k => if k.val < 15 then 0 else if (slotOf (k.val - 15)).2.1 = 0 then 2 else 3

theorem L_of_ne (g : GSem nD τ sig) (h : g.1.2 ≠ .tc) : L g = ∅ := if_neg h
theorem L_tc (c : Dev nD) (sm : SemLoc sig) : L ((c : Thread nD τ), sm) = {()} := if_pos rfl

theorem lv_recv (i : Slot) (c : Dev nD) : lv (recvCell i c) () = if i.2.1 = 0 then 2 else 3 := by
  obtain ⟨h1, h2, h3⟩ := slotOf_recv i
  refine (if_neg h1).trans ?_; rw [h3]
theorem lv_send (i : Slot) (c : Dev nD) : lv (sendCell i c) () = 0 := if_pos (slotOf_send i).1

/-- A device owes only to the cells of the transfers listed. -/
theorem owe_pos {c : Dev nD} {l : List Slot} {g : GSem nD τ sig} {u : Unit} (h : 0 < owe c l g u) :
    ∃ i ∈ l, g = recvCell (rev i) (tgt i c) := by
  induction l with
  | nil => exact absurd h (Nat.lt_irrefl 0)
  | cons i l ih =>
    unfold owe at h
    rw [Pi.add_apply, Finsupp.add_apply, tallyAt_apply] at h
    by_cases hg : g = recvCell (rev i) (tgt i c) ∧ u = ()
    · exact ⟨i, List.mem_cons_self, hg.1⟩
    · rw [if_neg hg, Nat.add_zero] at h
      obtain ⟨j, hj, e⟩ := ih h
      exact ⟨j, List.mem_cons_of_mem _ hj, e⟩

/-- Device `c` may wait on a cell of its own while it owes the transfers listed, all of higher level. -/
theorem mayWait_owe (c : Dev nD) (sm : SemLoc sig) (n : ℕ) (l : List Slot) (h : lv ((c : Thread nD τ), sm) () ≤ n)
    (hl : ∀ i ∈ l, n < if i.2.1 = 0 then 2 else 3) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨i, _, rfl⟩ := owe_pos hg; rw [L_tc]; exact Finset.mem_singleton_self _)
    (fun p hp => by rw [Finset.mem_singleton.mp hp]; exact h)
    (fun g u hg => by obtain ⟨i, hi, rfl⟩ := owe_pos hg; cases u; rw [lv_recv]; exact hl i hi)

/-- Every cell a device owes to at launch is a barrier cell or a receive cell. -/
theorem owed_pos {c : Dev nD} {g : GSem nD τ sig} {u : Unit} (h : 0 < O₀ c g u) :
    (∃ d, g = barCell (peer d c)) ∨ ∃ i : Slot, g = recvCell (rev i) (tgt i c) := by
  cases u
  unfold O₀ O₁ O₂ at h
  simp only [Pi.add_apply, Finsupp.add_apply, tallyAt_apply, and_true] at h
  by_cases h0 : g = barCell (peer 0 c)
  · exact Or.inl ⟨0, h0⟩
  by_cases h1 : g = barCell (peer 1 c)
  · exact Or.inl ⟨1, h1⟩
  by_cases h2 : g = barCell (peer 2 c)
  · exact Or.inl ⟨2, h2⟩
  rw [if_neg h0, if_neg h1, if_neg h2] at h
  obtain ⟨i, _, e⟩ := owe_pos (show 0 < owe c allSlots g () from h)
  exact Or.inr ⟨i, e⟩

/-- The staging cells wait below everything owed. -/
theorem mayWait_stage (c : Dev nD) (q : DmaSem sig) (hq : q.val < 15) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos hg with ⟨d, rfl⟩ | ⟨i, rfl⟩ <;> exact Finset.mem_singleton_self _)
      (fun p hp => by rw [Finset.mem_singleton.mp hp]; exact (if_pos hq).le)
      (fun g u hg => by
        rcases owed_pos hg with ⟨d, rfl⟩ | ⟨i, rfl⟩
        · exact Nat.one_pos
        · cases u; rw [lv_recv]; split <;> decide)
  · rw [MayWait_zero]; iintro -; iempintro

end Cert.GemmSilu

end
-- ==== Proof.Steps.lean ====
/-
# One rule per kind of operation of the kernel

Each is stated once for every device, slot and block: the barrier's signals and its wait, a transfer and the two
waits for it, and the loads and stores of a block, a half and a whole buffer. The body is these rules in program order.
-/
module

public import proofs.«01_k».proof.Proof.Schedule

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

/-- The kernel's own counters on a device: its barrier, its twelve send counters, its twelve receive counters. -/
abbrev CIx : Type := Unit ⊕ (Slot ⊕ Slot)
instance : DecidableEq (Slot ⊕ Slot) := instDecidableEqSum
instance : DecidableEq CIx := instDecidableEqSum
instance : DecidableEq (Dev nD × CIx) := instDecidableEqProd
def osem : Slot ⊕ Slot → SemLoc sig := Sum.elim (fun i => .dma (sendS i)) (fun i => .dma (recvS i))
def csem : CIx → SemLoc sig := Sum.elim (fun _ => .reg barS) osem
def kcell (p : Dev nD × CIx) : GSem nD τ sig := ((p.1 : Thread nD τ), csem p.2)

variable (K : Dev nD × CIx → ℕ)

/-- Every cell keeps its schedule, stands at round 0, and has its level: what all devices know throughout. -/
def world : sProp 𝕄 := iprop((bigSep Finset.univ fun p : Dev nD × CIx => iprop(cellInv ER (sched m) (K p) (kcell p) ∗ reached ER (kcell p) 0)) ∗ levAts L lv)

instance world_persistent : BI.Persistent (world m K) := by unfold world; infer_instance

theorem world_at (p : Dev nD × CIx) : world m K ⊢ iprop(cellInv ER (sched m) (K p) (kcell p) ∗ reached ER (kcell p) 0) := by
  have h : (bigSep Finset.univ fun p : Dev nD × CIx => (iprop(cellInv ER (sched m) (K p) (kcell p) ∗ reached ER (kcell p) 0) : sProp 𝕄))
      ⊢ iprop(cellInv ER (sched m) (K p) (kcell p) ∗ reached ER (kcell p) 0) := bigSep_elim (Finset.mem_univ p)
  unfold world
  exact sep_elim_left.trans h

theorem world_bar (c : Dev nD) : world m K ⊢ iprop(cellInv ER (sched m) (K (c, .inl ())) (barCell c) ∗ reached ER (barCell c) 0) := world_at m K (c, .inl ())
theorem world_send (i : Slot) (c : Dev nD) : world m K ⊢ iprop(cellInv ER (sched m) (K (c, .inr (.inl i))) (sendCell i c) ∗ reached ER (sendCell i c) 0) := world_at m K (c, .inr (.inl i))
theorem world_recv (i : Slot) (c : Dev nD) : world m K ⊢ iprop(cellInv ER (sched m) (K (c, .inr (.inr i))) (recvCell i c) ∗ reached ER (recvCell i c) 0) := world_at m K (c, .inr (.inr i))
theorem world_lev : world m K ⊢ (levAts L lv : sProp 𝕄) := by unfold world; iintro ⟨-, H⟩; iexact H

/-- Device `c` owes `O`, whatever it has waited on. -/
def ows (c : Dev nD) (O : CellTallies nD τ sig Unit) : sProp 𝕄 := iprop(∃ W, owes (c : Thread nD τ) O W)

/-! ## The barrier -/

/-- What device `c` gives when it signals in direction `d`: its four halves which that device writes. -/
def barGive (d : Fin 3) (c : Dev nD) : sProp 𝕄 := bigSep Finset.univ fun x : Fin 2 × Fin 2 => room (F := F) (x.1, x.2, back d) c

omit [FloatOps F] in
theorem barPay_peer (d : Fin 3) (c : Dev nD) : (barPay (back d) (peer d c) : sProp 𝕄) = barGive d c := by
  unfold barPay barGive; rw [peer_back]

/-- The signal in direction `d`. -/
theorem step_signal (d : Fin 3) (c n : Dev nD) (hn : n = peer d c) {k' : ℕ} (hk : 1 = k') (O : CellTallies nD τ sig Unit)
    {α : Type} {k : PUnit → Prog (TpuEff nD τ sig (Elt F) Λ₀ .tc) α} {Q : α → sProp 𝕄} :
    iprop(world m K ∗ ows c (O + tallyAt (barCell (peer d c)) () 1) ∗ dutyTok ER (barCell (peer d c)) 0 d ∗ barGive d c)
      ⊢ iprop((ows c O -∗ Runs c (k ⟨⟩) Q) -∗ Runs c (.op (.semSignal (Dev.tc n : Thread nD τ) barS k') k) Q) := by
  subst hn hk
  unfold ows
  iintro ⟨#HW, ⟨%W, HO⟩, Ht, Hg⟩ Hk
  ihave Hc := (world_bar m K (peer d c)) $$ HW
  icases Hc with ⟨HI, Hr⟩
  iapply (Rounds.wp_signal 𝒱₀ ER (sched m) (c : Thread nD τ) none (dst := (peer d c : Thread nD τ)) (κ := K (peer d c, .inl ()))
      (d := d) (by rw [duties_bar]; exact Finset.mem_univ _) (amount_bar m (peer d c) d) () O rfl) $$ [HI Hr HO Ht Hg]
  · isplitl [HI]; · iexact HI
    isplitl [HO]; · iexact HO
    isplitl [Ht]; · iexact Ht
    isplitl [Hg]; · rw [payload_bar, barPay_peer]; iexact Hg
    iexact Hr
  iintro HO
  iapply Hk
  iexists W; iexact HO

/-- The wait at the barrier: every other device has handed over what this one writes there. -/
theorem step_barrier (c : Dev nD) {k' : ℕ} (hk : 3 = k')
    {α : Type} {k : PUnit → Prog (TpuEff nD τ sig (Elt F) Λ₀ .tc) α} {Q : α → sProp 𝕄} :
    iprop(world m K ∗ ows c (owe c allSlots) ∗ cred (tallyAt (barCell c) () 3) ∗ atPos ER (barCell c) 0 ∅ 0)
      ⊢ iprop(((ows c (owe c allSlots) ∗ semVal (barCell c) 0 ∗ bigSep Finset.univ fun d => barPay d c) -∗ Runs c (k ⟨⟩) Q)
          -∗ Runs c (.op (.semWait barS k') k) Q) := by
  subst hk
  unfold ows
  iintro ⟨#HW, ⟨%W, HO⟩, Hcr, Hat⟩ Hk
  ihave Hc := (world_bar m K c) $$ HW
  icases Hc with ⟨#HI, -⟩
  iapply (Rounds.wp_wait_rest_token 𝒱₀ ER (sched m) (c : Thread nD τ) none (κ := K (c, .inl ()))
      (wpE_semWait_eq 𝒱₀ (c : Thread nD τ) none Set.univ) (Set.mem_univ _) () (O := owe c allSlots) (W := W) (R := 0) (m := 0) (T := ∅)
      (by rw [expect_bar])) $$ [Hcr HO Hat]
  · isplitr; · iexact HI
    isplitl [Hcr]; · iexact Hcr
    isplitl [HO]; · iexact HO
    isplitr
    · iapply (mayWait_owe c (.reg barS) 1 allSlots le_rfl (by decide)); iapply (world_lev m K); iexact HW
    iexact Hat
  iintro ⟨HO, Hat, -, Hpay⟩
  imod (Rounds.cell_close ER (sched m) (Set.mem_univ (K (c, .inl ()))) (fun h => h) (R := 0 + 1) (duties_later m (barCell c))) $$ [Hat] with Hz
  · isplitr; · iexact HI
    iexact Hat
  ihave Hp := (Entails.of_eq (rest_bar m c)) $$ Hpay
  iapply Hk
  isplitl [HO]; · iexists _; iexact HO
  isplitl [Hz]; · iexact Hz
  iexact Hp

/-! ## A transfer and its two waits -/

/-- The tokens of transfer `i` of device `c`: the two duties it pays and the position of its send counter. -/
def toks (i : Slot) (c : Dev nD) : sProp 𝕄 :=
  iprop(dutyTok ER (sendCell i c) 0 0 ∗ dutyTok ER (recvCell (rev i) (tgt i c)) 0 0 ∗ atPos ER (sendCell i c) 0 ∅ 0)
/-- Transfer `i` of device `c`, ready to start: the half it writes, its tokens and its source. -/
def ready (i : Slot) (c : Dev nD) : sProp 𝕄 := iprop(sendPay m i c ∗ room i (tgt i c) ∗ toks i c)
/-- Transfer `i` of device `c`, started and not yet waited for. -/
def flying (i : Slot) (c : Dev nD) : sProp 𝕄 := iprop(atPos ER (sendCell i c) 0 ∅ 0 ∗ cred (tallyAt (sendCell i c) () N))
/-- Transfer `i` of device `c`, waited for: its source is back and its counter at zero. -/
def left (i : Slot) (c : Dev nD) : sProp 𝕄 := iprop(sendPay m i c ∗ semVal (sendCell i c) 0)
/-- Device `c` may wait for what arrives from the direction of `i`. -/
def due (i : Slot) (c : Dev nD) : sProp 𝕄 := iprop(atPos ER (recvCell i c) 0 ∅ 0 ∗ cred (tallyAt (recvCell i c) () N))
/-- It has arrived, and the counter is at zero. -/
def got (i : Slot) (c : Dev nD) : sProp 𝕄 := iprop(recvPay m i c ∗ semVal (recvCell i c) 0)

theorem recvPay_tgt (i : Slot) (c : Dev nD) : recvPay m (rev i) (tgt i c) = owns (tgt i c : Thread nD τ) (dstM i) fullShare (sent m i c) := by
  have e : tgt (rev i) (tgt i c) = c := peer_back i.2.2 c
  unfold recvPay; rw [e, rev_rev]

/-- The transfer `i` of device `c`: what it owed for it is paid. -/
theorem step_send (i : Slot) (c n : Dev nD) (l : List Slot) (hn : n = tgt i c)
    {src dst : Memref sig .tc .vmem S128x256 .bf16} (h1 : src = srcM i c) (h2 : dst = dstM i)
    {sS sR : DmaSem sig} (h3 : sS = sendS i) (h4 : sR = recvS (rev i))
    {hsc : (dst : Memref sig (Dev.tc n : Thread nD τ).2.kind .vmem S128x256 .bf16).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem S128x256 .bf16) (.dma sS) hsc)}
    {α : Type} {k : PUnit → Prog (TpuEff nD τ sig (Elt F) Λ₀ .tc) α} {Q : α → sProp 𝕄} :
    iprop(world m K ∗ ows c (owe c (i :: l)) ∗ ready m i c)
      ⊢ iprop(((ows c (owe c l) ∗ flying i c) -∗ Runs c (k ⟨⟩) Q)
          -∗ Runs c (.op (.enqueueDma src (.remote (Dev.tc n : Thread nD τ) dst (.dma sS) hsc) (.dma sR) hsrc hdst hsem) k) Q) := by
  subst hn h1 h2 h3 h4
  unfold ows ready room toks sendPay flying owns
  iintro ⟨#HW, ⟨%W, HO⟩, ⟨%fs, %hfs, Hs⟩, ⟨%X, %fd, %hfd, Hd⟩, Ht, Htr, Hat⟩ Hk
  ihave Hc := (world_send m K i c) $$ HW
  icases Hc with ⟨HI, Hr⟩
  ihave Hc' := (world_recv m K (rev i) (tgt i c)) $$ HW
  icases Hc' with ⟨HI', Hr'⟩
  iapply (Rounds.wp_send_pointsTo 𝒱₀ ER (sched m) (c : Thread nD τ) none (κ₁ := K (c, .inr (.inl i))) (κ₂ := K (tgt i c, .inr (.inr (rev i))))
    (r₁ := 0) (r₂ := 0) (d₁ := 0) (d₂ := 0) (fd := fd)
    (by rw [duties_send]; exact Finset.mem_singleton_self _) (by rw [duties_recv]; exact Finset.mem_singleton_self _)
    () () N (by exact amount_half i.2.1 i.2.2 i.1) (amount_send m i c 0) (amount_recv m (rev i) (tgt i c) 0) (owe c l) rfl (W := W)
    (by rw [payload_send]; unfold sendPay; rw [← hfs]; exact owns_intro _ _ _ _)
    (by
      rw [payload_recv, recvPay_tgt]
      refine (owns_intro _ _ _ _).trans (Entails.of_eq ?_)
      rw [View.read_write_univ, hfs]))
    $$ [HI HI' Hs Hd HO Ht Hr Htr Hr']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Htr]; · iexact Htr
    iexact Hr'
  iintro ⟨Hcr, HO⟩
  iapply Hk
  isplitl [HO]; · iexists W; iexact HO
  isplitl [Hat]; · iexact Hat
  iexact Hcr

/-- The wait for a transfer to have left. -/
theorem step_left (i : Slot) (c : Dev nD) {s : DmaSem sig} (h : s = sendS i)
    {src dst : Memref sig .tc .vmem S128x256 .bf16} (hN : dst.view.dmaCredit = N)
    {hsrc : src.view.WordExact} {hdst : dst.view.WordExact}
    {α : Type} {k : PUnit → Prog (TpuEff nD τ sig (Elt F) Λ₀ .tc) α} {Q : α → sProp 𝕄} :
    iprop(world m K ∗ ows c (owe c []) ∗ flying i c)
      ⊢ iprop(((ows c (owe c []) ∗ left m i c) -∗ Runs c (k ⟨⟩) Q) -∗ Runs c (.op (.waitDma2 s src dst hsrc hdst) k) Q) := by
  subst h
  unfold ows flying left
  iintro ⟨#HW, ⟨%W, HO⟩, Hat, Hcr⟩ Hk
  ihave Hc := (world_send m K i c) $$ HW
  icases Hc with ⟨#HI, -⟩
  rw [← hN]
  iapply (Rounds.wp_wait_rest_token 𝒱₀ ER (sched m) (c : Thread nD τ) none (κ := K (c, .inr (.inl i)))
      (wpE_waitDma2_eq 𝒱₀ (c : Thread nD τ) none Set.univ) (Set.mem_univ _) () (O := owe c []) (W := W) (R := 0) (m := 0) (T := ∅)
      (by rw [Nat.zero_add, expect_send, hN])) $$ [Hcr HO Hat]
  · isplitr; · iexact HI
    isplitl [Hcr]; · iexact Hcr
    isplitl [HO]; · iexact HO
    isplitr
    · iapply (mayWait_owe c (.dma (sendS i)) 0 [] (lv_send i c).le (by simp)); iapply (world_lev m K); iexact HW
    iexact Hat
  iintro ⟨HO, Hat, -, Hpay⟩
  imod (Rounds.cell_close ER (sched m) (Set.mem_univ (K (c, .inr (.inl i)))) (fun h => h) (R := 0 + 1) (duties_later m (sendCell i c))) $$ [Hat] with Hz
  · isplitr; · iexact HI
    iexact Hat
  ihave Hp := (Entails.of_eq (rest_send m i c)) $$ Hpay
  iapply Hk
  isplitl [HO]; · iexists _; iexact HO
  isplitl [Hp]; · iexact Hp
  iexact Hz

/-- The wait for an arrival: `l` is what this device has still to start, all of a later phase. -/
theorem step_got (i : Slot) (c : Dev nD) (l : List Slot) (hl : ∀ j ∈ l, (if i.2.1 = 0 then 2 else 3) < if j.2.1 = 0 then 2 else 3)
    {s : DmaSem sig} (h : s = recvS i)
    {src dst : Memref sig .tc .vmem S128x256 .bf16} (hN : dst.view.dmaCredit = N)
    {hsrc : src.view.WordExact} {hdst : dst.view.WordExact}
    {α : Type} {k : PUnit → Prog (TpuEff nD τ sig (Elt F) Λ₀ .tc) α} {Q : α → sProp 𝕄} :
    iprop(world m K ∗ ows c (owe c l) ∗ due i c)
      ⊢ iprop(((ows c (owe c l) ∗ got m i c) -∗ Runs c (k ⟨⟩) Q) -∗ Runs c (.op (.waitDma2 s src dst hsrc hdst) k) Q) := by
  subst h
  unfold ows due got
  iintro ⟨#HW, ⟨%W, HO⟩, Hat, Hcr⟩ Hk
  ihave Hc := (world_recv m K i c) $$ HW
  icases Hc with ⟨#HI, -⟩
  rw [← hN]
  iapply (Rounds.wp_wait_rest_token 𝒱₀ ER (sched m) (c : Thread nD τ) none (κ := K (c, .inr (.inr i)))
      (wpE_waitDma2_eq 𝒱₀ (c : Thread nD τ) none Set.univ) (Set.mem_univ _) () (O := owe c l) (W := W) (R := 0) (m := 0) (T := ∅)
      (by rw [Nat.zero_add, expect_recv, hN])) $$ [Hcr HO Hat]
  · isplitr; · iexact HI
    isplitl [Hcr]; · iexact Hcr
    isplitl [HO]; · iexact HO
    isplitr
    · iapply (mayWait_owe c (.dma (recvS i)) _ l (lv_recv i c).le hl); iapply (world_lev m K); iexact HW
    iexact Hat
  iintro ⟨HO, Hat, -, Hpay⟩
  imod (Rounds.cell_close ER (sched m) (Set.mem_univ (K (c, .inr (.inr i)))) (fun h => h) (R := 0 + 1) (duties_later m (recvCell i c))) $$ [Hat] with Hz
  · isplitr; · iexact HI
    iexact Hat
  ihave Hp := (Entails.of_eq (rest_recv m i c)) $$ Hpay
  iapply Hk
  isplitl [HO]; · iexists _; iexact HO
  isplitl [Hp]; · iexact Hp
  iexact Hz

/-! ## Loads and stores -/

section Access

variable (c : Dev nD)

/-- A load of a part that is owned on its own. -/
theorem step_load {s : Shape} {e : EltTy} (b : Memref sig .tc .vmem s e) (r : Rect s) (hr : ∀ a, r.stride a = 1)
    {q : PosShare TreeShare} {X : r.shape.Idx → Elt F e} {hl : b.view.LoadsAt r.toLoadRect}
    {α : Type} {k : (r.shape.Idx → Elt F e) → Prog (TpuEff nD τ sig (Elt F) Λ₀ .tc) α} {Q : α → sProp 𝕄} :
    owns (c : Thread nD τ) (b.slice r hr) q X
      ⊢ iprop((owns (c : Thread nD τ) (b.slice r hr) q X -∗ Runs c (k X) Q) -∗ Runs c (.op (.load b r.toLoadRect hl) k) Q) := by
  unfold owns
  iintro ⟨%f, %hf, H⟩ Hk
  iapply (wp_load_rect 𝒱₀ (c : Thread nD τ) none Set.univ (m := b) (r := r) (Finset.Subset.refl _)) $$ H
  iintro H
  rw [show (b.access r).read (Elt F) f = X from hf]
  iapply Hk
  iexists f; isplitr; · ipureintro; exact hf
  iexact H

/-- A store to a part that is owned on its own. -/
theorem step_store {s : Shape} {e : EltTy} (b : Memref sig .tc .vmem s e) (r : Rect s) (hr : ∀ a, r.stride a = 1)
    {w X : r.shape.Idx → Elt F e} {hx : (b.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    owns (c : Thread nD τ) (b.slice r hr) fullShare X
      ⊢ iprop((owns (c : Thread nD τ) (b.slice r hr) fullShare w -∗ Runs c (k ⟨⟩) Q) -∗ Runs c (.op (.store b r w Finset.univ hx hm) k) Q) := by
  unfold owns
  iintro ⟨%f, -, H⟩ Hk
  iapply (wp_store 𝒱₀ (c : Thread nD τ) none Set.univ (m := b) (r := r) (Mk := Finset.univ) (S := (b.slice r hr).view.set) (by rw [View.setOn_univ])) $$ H
  iintro H
  iapply Hk
  iexists _
  isplitr [H]
  · ipureintro; exact View.read_write_univ f w
  iexact H

/-- The same for block `(r, h)` of a 512×512 buffer, at the offsets the kernel computes. -/
theorem step_load_blk {e : EltTy} (b : Memref sig .tc .vmem S512x512 e) (r : Fin 4) (h : Fin 2) {off : Fin 2 → ℕ} (ho : off = ![128 * r.val, 256 * h.val])
    {inb : ∀ a, off a + S128x256.size a ≤ S512x512.size a} {q : PosShare TreeShare} {X : S128x256.Idx → Elt F e}
    {hl : b.view.LoadsAt (Rect.unit (s := S512x512) off S128x256.size inb).toLoadRect}
    {α : Type} {k : (S128x256.Idx → Elt F e) → Prog (TpuEff nD τ sig (Elt F) Λ₀ .tc) α} {Q : α → sProp 𝕄} :
    owns (c : Thread nD τ) (b.slice (blkR r h) (fun _ => rfl)) q X
      ⊢ iprop((owns (c : Thread nD τ) (b.slice (blkR r h) (fun _ => rfl)) q X -∗ Runs c (k X) Q)
          -∗ Runs c (.op (.load b (Rect.unit (s := S512x512) off S128x256.size inb).toLoadRect hl) k) Q) := by
  subst ho; exact step_load c b (blkR r h) (fun _ => rfl)

theorem step_store_blk {e : EltTy} (b : Memref sig .tc .vmem S512x512 e) (r : Fin 4) (h : Fin 2) {off : Fin 2 → ℕ} (ho : off = ![128 * r.val, 256 * h.val])
    {inb : ∀ a, off a + S128x256.size a ≤ S512x512.size a} {w X : S128x256.Idx → Elt F e}
    {hx : (b.access (Rect.unit (s := S512x512) off S128x256.size inb)).Stores Finset.univ}
    {hm : (Finset.univ : Finset (Rect.unit (s := S512x512) off S128x256.size inb).shape.Idx) = Finset.univ ∨ ∀ a, (Rect.unit (s := S512x512) off S128x256.size inb).stride a = 1}
    {α : Type} {k : PUnit → Prog (TpuEff nD τ sig (Elt F) Λ₀ .tc) α} {Q : α → sProp 𝕄} :
    owns (c : Thread nD τ) (b.slice (blkR r h) (fun _ => rfl)) fullShare X
      ⊢ iprop((owns (c : Thread nD τ) (b.slice (blkR r h) (fun _ => rfl)) fullShare w -∗ Runs c (k ⟨⟩) Q)
          -∗ Runs c (.op (.store b (Rect.unit (s := S512x512) off S128x256.size inb) w Finset.univ hx hm) k) Q) := by
  subst ho; exact step_store c b (blkR r h) (fun _ => rfl)

/-- A half owned as a 128×256 array is the half owned as a 1×128×256 one. -/
theorem owns_half (b : Memref sig .tc .vmem S2x128x256 .bf16) (h : Fin 2) (q : PosShare TreeShare) (X : S128x256.Idx → Elt F .bf16) :
    (owns (c : Thread nD τ) (halfM b h) q X : sProp 𝕄) = owns (c : Thread nD τ) (b.slice (halfR h) (fun _ => rfl)) q (up X) := by
  have hset : (halfM b h).view.set = (b.slice (halfR h) (fun _ => rfl)).view.set := View.set_reshape _ _
  have hrd (f : b.view.ty.Contents (Elt F)) : (halfM b h).view.read (Elt F) f = X ↔ (b.slice (halfR h) (fun _ => rfl)).view.read (Elt F) f = up X := by
    constructor
    · intro e; rw [← e]; funext i
      exact (congrArg ((b.slice (halfR h) (fun _ => rfl)).view.read (Elt F) f) ((Shape.reshapeEquiv squeezes_S1x128x256_S128x256.numel_eq).apply_symm_apply i)).symm
    · intro e; funext j
      exact (congrFun e ((Shape.reshapeEquiv squeezes_S1x128x256_S128x256.numel_eq) j)).trans
        (congrArg X ((Shape.reshapeEquiv squeezes_S1x128x256_S128x256.numel_eq).symm_apply_apply j))
  have hL : iprop(∃ f, ⌜(halfM b h).view.read (Elt F) f = X⌝ ∗ ((halfM b h).view.loc (c : Thread nD τ) ↦[(halfM b h).view.set]{q} f))
      ⊢ (iprop(∃ f, ⌜(b.slice (halfR h) (fun _ => rfl)).view.read (Elt F) f = up X⌝
          ∗ ((b.slice (halfR h) (fun _ => rfl)).view.loc (c : Thread nD τ) ↦[(b.slice (halfR h) (fun _ => rfl)).view.set]{q} f)) : sProp 𝕄) := by
    iintro ⟨%f, %hf, H⟩
    iexists f
    isplitr; · ipureintro; exact (hrd f).mp hf
    rw [← hset]; iexact H
  have hR : iprop(∃ f, ⌜(b.slice (halfR h) (fun _ => rfl)).view.read (Elt F) f = up X⌝
          ∗ ((b.slice (halfR h) (fun _ => rfl)).view.loc (c : Thread nD τ) ↦[(b.slice (halfR h) (fun _ => rfl)).view.set]{q} f))
      ⊢ (iprop(∃ f, ⌜(halfM b h).view.read (Elt F) f = X⌝ ∗ ((halfM b h).view.loc (c : Thread nD τ) ↦[(halfM b h).view.set]{q} f)) : sProp 𝕄) := by
    iintro ⟨%f, %hf, H⟩
    iexists f
    isplitr; · ipureintro; exact (hrd f).mpr hf
    rw [hset]; iexact H
  exact BI.equiv_iff.mp ⟨hL, hR⟩

/-- The same for half `h` of a 2×128×256 buffer. -/
theorem step_load_half (b : Memref sig .tc .vmem S2x128x256 .bf16) (h : Fin 2) {off : Fin 3 → ℕ} (ho : off = ![h.val, 0, 0])
    {inb : ∀ a, off a + S1x128x256.size a ≤ S2x128x256.size a} {q : PosShare TreeShare} {X : S128x256.Idx → Elt F .bf16}
    {hl : b.view.LoadsAt (Rect.unit (s := S2x128x256) off S1x128x256.size inb).toLoadRect}
    {α : Type} {k : (S1x128x256.Idx → Elt F .bf16) → Prog (TpuEff nD τ sig (Elt F) Λ₀ .tc) α} {Q : α → sProp 𝕄} :
    owns (c : Thread nD τ) (halfM b h) q X
      ⊢ iprop((owns (c : Thread nD τ) (halfM b h) q X -∗ Runs c (k (up X)) Q)
          -∗ Runs c (.op (.load b (Rect.unit (s := S2x128x256) off S1x128x256.size inb).toLoadRect hl) k) Q) := by
  subst ho; rw [owns_half]; exact step_load c b (halfR h) (fun _ => rfl)

theorem step_store_half (b : Memref sig .tc .vmem S2x128x256 .bf16) (h : Fin 2) {off : Fin 3 → ℕ} (ho : off = ![h.val, 0, 0])
    {inb : ∀ a, off a + S1x128x256.size a ≤ S2x128x256.size a} {w : S1x128x256.Idx → Elt F .bf16} {X : S128x256.Idx → Elt F .bf16}
    {hx : (b.access (Rect.unit (s := S2x128x256) off S1x128x256.size inb)).Stores Finset.univ}
    {hm : (Finset.univ : Finset (Rect.unit (s := S2x128x256) off S1x128x256.size inb).shape.Idx) = Finset.univ ∨ ∀ a, (Rect.unit (s := S2x128x256) off S1x128x256.size inb).stride a = 1}
    {α : Type} {k : PUnit → Prog (TpuEff nD τ sig (Elt F) Λ₀ .tc) α} {Q : α → sProp 𝕄} :
    owns (c : Thread nD τ) (halfM b h) fullShare X
      ⊢ iprop((owns (c : Thread nD τ) (halfM b h) fullShare (shapeCast S128x256 w shapeCasts_S1x128x256_S128x256) -∗ Runs c (k ⟨⟩) Q)
          -∗ Runs c (.op (.store b (Rect.unit (s := S2x128x256) off S1x128x256.size inb) w Finset.univ hx hm) k) Q) := by
  subst ho; rw [owns_half, owns_half, up_shapeCast]; exact step_store c b (halfR h) (fun _ => rfl)

/-- A load through a rectangle of an owned memref, `Y` being what it reads there. -/
theorem step_load_all {s : Shape} {e : EltTy} (b : Memref sig .tc .vmem s e) {r : Rect s} {q : PosShare TreeShare} {X : s.Idx → Elt F e} (Y : r.shape.Idx → Elt F e)
    (hY : ∀ f, b.view.read (Elt F) f = X → (b.access r).read (Elt F) f = Y) {hl : b.view.LoadsAt r.toLoadRect}
    {α : Type} {k : (r.shape.Idx → Elt F e) → Prog (TpuEff nD τ sig (Elt F) Λ₀ .tc) α} {Q : α → sProp 𝕄} :
    owns (c : Thread nD τ) b q X
      ⊢ iprop((owns (c : Thread nD τ) b q X -∗ Runs c (k Y) Q) -∗ Runs c (.op (.load b r.toLoadRect hl) k) Q) := by
  unfold owns
  iintro ⟨%f, %hf, H⟩ Hk
  iapply (wp_load_rect 𝒱₀ (c : Thread nD τ) none Set.univ (m := b) (r := r) (S := b.view.set) (View.set_slice_subset _ _)) $$ H
  iintro H
  rw [hY f hf]
  iapply Hk
  iexists f; isplitr; · ipureintro; exact hf
  iexact H

/-- A store that leaves the memref at `Y`. -/
theorem step_store_all {s : Shape} {e : EltTy} (b : Memref sig .tc .vmem s e) {r : Rect s} {w : r.shape.Idx → Elt F e} {X : s.Idx → Elt F e} (Y : s.Idx → Elt F e)
    (hY : ∀ f, b.view.read (Elt F) ((b.access r).write (Elt F) f w Finset.univ) = Y)
    {hx : (b.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    owns (c : Thread nD τ) b fullShare X
      ⊢ iprop((owns (c : Thread nD τ) b fullShare Y -∗ Runs c (k ⟨⟩) Q) -∗ Runs c (.op (.store b r w Finset.univ hx hm) k) Q) := by
  unfold owns
  iintro ⟨%f, -, H⟩ Hk
  iapply (wp_store 𝒱₀ (c : Thread nD τ) none Set.univ (m := b) (r := r) (Mk := Finset.univ) (S := b.view.set)
    (by rw [View.setOn_univ]; exact View.set_slice_subset _ _)) $$ H
  iintro H
  iapply Hk
  iexists _
  isplitr [H]
  · ipureintro; exact hY f
  iexact H

end Access

end Cert.GemmSilu

end
-- ==== Proof.Body.lean ====
/-
# The body, part by part

The printed body is cut into parts; each is run once at a symbolic device by the rules of `Steps`.
-/
module

public import proofs.«01_k».proof.Proof.Steps
public import Idealize.ShloMosaic.Lib.MemrefSat

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CIx → ℕ)

/-! ## What the steps name, at the kernel's own buffers -/

/-- A part of the kernel at its buffers. -/
abbrev atBufs {β : Type 1} (f : (arg0 : Memref sig .tc .vmem S512x256 .bf16) → arg0.IsWhole → (arg1 : Memref sig .tc .vmem S256x512 .bf16) → arg1.IsWhole →
    (arg2 : Memref sig .tc .vmem S512x512 .f32) → arg2.IsWhole → (arg3 : Memref sig .tc .vmem S512x512 .bf16) → arg3.IsWhole →
    (arg4 : Memref sig .tc .vmem S2x128x256 .bf16) → arg4.IsWhole → (arg5 : Memref sig .tc .vmem S2x128x256 .bf16) → arg5.IsWhole →
    (arg6 : Memref sig .tc .vmem S2x128x256 .bf16) → arg6.IsWhole → (arg7 : Memref sig .tc .vmem S2x128x256 .bf16) → arg7.IsWhole →
    (arg8 : Memref sig .tc .vmem S2x128x256 .bf16) → arg8.IsWhole → (arg9 : Memref sig .tc .vmem S2x128x256 .bf16) → arg9.IsWhole →
    (arg10 : Memref sig .tc .vmem S2x128x256 .bf16) → arg10.IsWhole → DmaSems sig S12 → DmaSems sig S12 → β) : β :=
  f aM (Memref.isWhole_whole _) bM (Memref.isWhole_whole _) oM (Memref.isWhole_whole _) pM (Memref.isWhole_whole _)
    (Memref.whole cc0_scratch1) (Memref.isWhole_whole _) (Memref.whole cc0_scratch2) (Memref.isWhole_whole _) (Memref.whole cc0_scratch3) (Memref.isWhole_whole _)
    gM (Memref.isWhole_whole _) (Memref.whole cc0_scratch5) (Memref.isWhole_whole _) (Memref.whole cc0_scratch6) (Memref.isWhole_whole _)
    (Memref.whole cc0_scratch7) (Memref.isWhole_whole _) cc0_scratch8 cc0_scratch9

/-- The three transfers of a chunk and a phase. -/
abbrev tri (Φ : Slot → sProp 𝕄) (h ph : Fin 2) : sProp 𝕄 := iprop(Φ (h, ph, 0) ∗ Φ (h, ph, 1) ∗ Φ (h, ph, 2))

/-- The source of a reduction's transfer, at the offsets the kernel computes. -/
theorem src_rs (h : Fin 2) (d : Fin 3) (c : Dev nD) {off : Fin 2 → ℕ} (ho : off = ![128 * (peer d c).val, 256 * h.val])
    {inb : ∀ a, off a + S128x256.size a ≤ S512x512.size a} {hr : ∀ a, (Rect.unit (s := S512x512) off S128x256.size inb).stride a = 1} :
    (pM.slice (Rect.unit (s := S512x512) off S128x256.size inb) hr : Memref sig .tc .vmem S128x256 .bf16) = srcM (h, 0, d) c := by
  subst ho; rfl
theorem src_ag (h : Fin 2) (d : Fin 3) (c : Dev nD) : halfM gM h = srcM (h, 1, d) c := rfl
/-- Its credit. -/
theorem credit_rs (r : Fin 4) (h : Fin 2) {off : Fin 2 → ℕ} (ho : off = ![128 * r.val, 256 * h.val])
    {inb : ∀ a, off a + S128x256.size a ≤ S512x512.size a} {hr : ∀ a, (Rect.unit (s := S512x512) off S128x256.size inb).stride a = 1} :
    (pM.slice (Rect.unit (s := S512x512) off S128x256.size inb) hr : Memref sig .tc .vmem S128x256 .bf16).view.dmaCredit = N := by
  subst ho; exact amount_part r h

/-- Device `c`'s own block of its partial product. -/
def ownPart (c : Dev nD) (h : Fin 2) : sProp 𝕄 := owns (c : Thread nD τ) (partM c h) fullShare (blkOf (partAt m c) c h)
/-- A block of the result, at any contents and as it is to be. -/
def outRoom (c : Dev nD) (r : Fin 4) (h : Fin 2) : sProp 𝕄 := iprop(∃ X, owns (c : Thread nD τ) (oM.slice (blkR r h) (fun _ => rfl)) fullShare X)
def outDone (c : Dev nD) (r : Fin 4) (h : Fin 2) : sProp 𝕄 := owns (c : Thread nD τ) (oM.slice (blkR r h) (fun _ => rfl)) fullShare (outBlk m c r h)
/-- Half `h` of the buffer the gathering sends from. -/
def agRoom (c : Dev nD) (h : Fin 2) : sProp 𝕄 := iprop(∃ X, owns (c : Thread nD τ) (halfM gM h) fullShare X)

theorem outBlk_own (c : Dev nD) (h : Fin 2) : outBlk m c c h = actAt m c h := if_pos rfl
theorem outBlk_peer (c : Dev nD) (d : Fin 3) (h : Fin 2) : outBlk m c (peer d c) h = k0_pay9 (agAt m (peer d c) h) := if_neg (peer_ne d c)

/-- The half that the gathering sends, split into what its three transfers hold. -/
theorem share_ag (c : Dev nD) (h : Fin 2) :
    (owns (c : Thread nD τ) (halfM gM h) fullShare (shapeCast S128x256 (agAt m c h) shapeCasts_S1x128x256_S128x256) : sProp 𝕄)
      ⊢ tri (fun i => sendPay m i c) h 1 := by
  refine (owns_halves _ _ _ _).1.trans (sep_mono_right ((owns_halves _ _ _ _).1))
theorem unshare_ag (c : Dev nD) (h : Fin 2) : tri (fun i => sendPay m i c) h 1 ⊢ agRoom (F := F) c h := by
  refine Entails.trans ?_ (exists_intro (shapeCast S128x256 (agAt m c h) shapeCasts_S1x128x256_S128x256))
  exact (sep_mono_right ((owns_halves _ _ _ _).2)).trans (owns_halves _ _ _ _).2

/-- A load of what has arrived. -/
theorem step_load_got (i : Slot) (c : Dev nD) {b : Memref sig .tc .vmem S2x128x256 .bf16} (hb : b = landM (rev i).2.1 (rev i).2.2)
    {off : Fin 3 → ℕ} (ho : off = ![i.1.val, 0, 0]) {Y : S1x128x256.Idx → Elt F .bf16} (hY : up (sent m (rev i) (tgt i c)) = Y)
    {inb : ∀ a, off a + S1x128x256.size a ≤ S2x128x256.size a} {hl : b.view.LoadsAt (Rect.unit (s := S2x128x256) off S1x128x256.size inb).toLoadRect}
    {α : Type} {k : (S1x128x256.Idx → Elt F .bf16) → Prog (TpuEff nD τ sig (Elt F) Λ₀ .tc) α} {Q : α → sProp 𝕄} :
    got m i c ⊢ iprop((got m i c -∗ Runs c (k Y) Q) -∗ Runs c (.op (.load b (Rect.unit (s := S2x128x256) off S1x128x256.size inb).toLoadRect hl) k) Q) := by
  subst hb hY
  unfold got recvPay
  iintro ⟨H, Hz⟩ Hk
  iapply (step_load_half c (landM (rev i).2.1 (rev i).2.2) (rev i).1 ho) $$ H
  iintro H
  iapply Hk
  isplitl [H]; · iexact H
  iexact Hz

/-- A program that has ended. -/
theorem step_ret (c : Dev nD) {α : Type} (a : α) (Q : α → sProp 𝕄) : Q a ⊢ Runs c (.ret a) Q := by
  unfold Runs; rw [wp_ret]; iintro H; imodintro; iexact H

/-! ## The parts -/

theorem zero2 : (![0, 0] : Fin 2 → ℕ) = fun _ => 0 := funext fun a => by fin_cases a <;> rfl

/-- Part 2: the signals, the partial product, the barrier. -/
theorem part2 (c : Dev nD) (v13 v24 v35 : BitVec 32) (Kt : PUnit → sProp 𝕄) :
    iprop(world m K ∗ ows c (O₀ c)
        ∗ (dutyTok ER (barCell (peer 0 c)) 0 0 ∗ dutyTok ER (barCell (peer 1 c)) 0 1 ∗ dutyTok ER (barCell (peer 2 c)) 0 2)
        ∗ (barGive 0 c ∗ barGive 1 c ∗ barGive 2 c)
        ∗ owns (c : Thread nD τ) aM fullShare (aAt m c) ∗ owns (c : Thread nD τ) bM fullShare (bAt m c)
        ∗ (∃ X, owns (c : Thread nD τ) pM fullShare X)
        ∗ cred (tallyAt (barCell c) () 3) ∗ atPos ER (barCell c) 0 ∅ 0
        ∗ ((ows c (owe c allSlots) ∗ owns (c : Thread nD τ) aM fullShare (aAt m c) ∗ owns (c : Thread nD τ) bM fullShare (bAt m c)
            ∗ owns (c : Thread nD τ) pM fullShare (partAt m c) ∗ semVal (barCell c) 0 ∗ bigSep Finset.univ fun d => barPay d c) -∗ Kt ⟨⟩))
      ⊢ Runs c (atBufs (k0_part2 (F := F)) c v13 v24 v35) Kt := by
  unfold atBufs
  simp only [k0_part2_eq_skeleton]; unfold k0_part2_skel
  simp only [semSignalWord, semWaitWord, Prog.lift, Prog.bind_op, Prog.bind_ret, Prog.pure_eq_ret]
  unfold O₀ O₁ O₂
  iintro ⟨#HW, HO, ⟨Ht0, Ht1, Ht2⟩, ⟨Hg0, Hg1, Hg2⟩, HA, HB, ⟨%X, HP⟩, Hcr, Hat, Hk⟩
  iapply (step_signal m K 0 c _ (dev1_eq c) (by decide) _) $$ [HO Ht0 Hg0]
  · isplitr; · iexact HW
    isplitl [HO]; · iexact HO
    isplitl [Ht0]; · iexact Ht0
    iexact Hg0
  iintro HO
  iapply (step_signal m K 1 c _ (dev2_eq c) (by decide) _) $$ [HO Ht1 Hg1]
  · isplitr; · iexact HW
    isplitl [HO]; · iexact HO
    isplitl [Ht1]; · iexact Ht1
    iexact Hg1
  iintro HO
  iapply (step_signal m K 2 c _ (dev3_eq c) (by decide) _) $$ [HO Ht2 Hg2]
  · isplitr; · iexact HW
    isplitl [HO]; · iexact HO
    isplitl [Ht2]; · iexact Ht2
    iexact Hg2
  iintro HO
  iapply (step_load_all c aM (aAt m c) (by exact fun f hf => (Memref.readAt_unit_zero (Elt F) cc0_stg0_0 zero2 _ f).trans hf)) $$ HA; iintro HA
  iapply (step_load_all c bM (bAt m c) (by exact fun f hf => (Memref.readAt_unit_zero (Elt F) cc0_stg1_0 zero2 _ f).trans hf)) $$ HB; iintro HB
  iapply (step_load_all c pM X (by exact fun f hf => (Memref.readAt_unit_zero (Elt F) cc0_scratch0 zero2 _ f).trans hf)) $$ HP; iintro HP
  iapply (step_store_all c pM (partAt m c) (by exact fun f => congrArg (pM.view.read (Elt F)) (Memref.write_access_unit_zero_univ (Elt F) cc0_scratch0 zero2 _ f (partAt m c)))) $$ HP; iintro HP
  iapply (step_barrier m K c (by decide)) $$ [HO Hcr Hat]
  · isplitr; · iexact HW
    isplitl [HO]; · iexact HO
    isplitl [Hcr]; · iexact Hcr
    iexact Hat
  iintro ⟨HO, Hz, Hp⟩
  iapply step_ret
  iapply Hk
  isplitl [HO]; · iexact HO
  isplitl [HA]; · iexact HA
  isplitl [HB]; · iexact HB
  isplitl [HP]; · iexact HP
  isplitl [Hz]; · iexact Hz
  iexact Hp

/-- Part 3: the reduction's transfers of chunk 0. -/
theorem part3 (c : Dev nD) (v13 v24 v35 : BitVec 32) (Kt : PUnit → sProp 𝕄) :
    iprop(world m K ∗ ows c (owe c allSlots) ∗ tri (fun i => ready m i c) 0 0
        ∗ ((ows c (owe c (allSlots.drop 3)) ∗ tri (fun i => flying i c) 0 0) -∗ Kt ⟨⟩))
      ⊢ Runs c (atBufs (k0_part3 (F := F)) c v13 v24 v35) Kt := by
  unfold atBufs
  simp only [k0_part3_eq_skeleton]; unfold k0_part3_skel
  simp only [semSignalWord, semWaitWord, Prog.lift, Prog.bind_op, Prog.bind_ret, Prog.pure_eq_ret]
  iintro ⟨#HW, HO, ⟨R0, R1, R2⟩, Hk⟩
  iapply (step_send m K (0, 0, 0) c _ (allSlots.drop 1) (dev4_eq c) (src_rs 0 0 c (off1_eq c)) rfl rfl rfl) $$ [HO R0]
  · isplitr; · iexact HW
    isplitl [HO]; · iexact HO
    iexact R0
  iintro ⟨HO, F0⟩
  iapply (step_send m K (0, 0, 1) c _ (allSlots.drop 2) (dev5_eq c) (src_rs 0 1 c (off2_eq c).1) rfl rfl rfl) $$ [HO R1]
  · isplitr; · iexact HW
    isplitl [HO]; · iexact HO
    iexact R1
  iintro ⟨HO, F1⟩
  iapply (step_send m K (0, 0, 2) c _ (allSlots.drop 3) (dev6_eq c) (src_rs 0 2 c (off2_eq c).2) rfl rfl rfl) $$ [HO R2]
  · isplitr; · iexact HW
    isplitl [HO]; · iexact HO
    iexact R2
  iintro ⟨HO, F2⟩
  iapply step_ret
  iapply Hk
  isplitl [HO]; · iexact HO
  isplitl [F0]; · iexact F0
  isplitl [F1]; · iexact F1
  iexact F2

/-- Transfer `i` of device `c`, but for its source: the half it writes and its tokens. -/
def kit (i : Slot) (c : Dev nD) : sProp 𝕄 := iprop(room i (tgt i c) ∗ toks i c)
theorem ready_of (i : Slot) (c : Dev nD) : iprop(sendPay m i c ∗ kit i c) ⊢ ready m i c := by unfold ready kit; exact .rfl

/-- Part 4: the reduction's transfers of chunk 1 and the first arrival of chunk 0. -/
theorem part4 (c : Dev nD) (v13 v24 v35 : BitVec 32) (Kt : BitVec 32 → sProp 𝕄) :
    iprop(world m K ∗ ows c (owe c (allSlots.drop 3)) ∗ tri (fun i => ready m i c) 1 0 ∗ due (0, 0, 1) c
        ∗ ((ows c (owe c (allSlots.drop 6)) ∗ tri (fun i => flying i c) 1 0 ∗ got m (0, 0, 1) c) -∗ Kt (Scalar.muli v24 1#32)))
      ⊢ Runs c (atBufs (k0_part4 (F := F)) c v13 v24 v35) Kt := by
  unfold atBufs
  simp only [k0_part4_eq_skeleton]; unfold k0_part4_skel
  simp only [semSignalWord, semWaitWord, Prog.lift, Prog.bind_op, Prog.bind_ret, Prog.pure_eq_ret]
  iintro ⟨#HW, HO, ⟨R0, R1, R2⟩, D001, Hk⟩
  iapply (step_send m K (1, 0, 0) c _ (allSlots.drop 4) (dev7_eq c) (src_rs 1 0 c (off3_eq c)) rfl rfl rfl) $$ [HO R0]
  · isplitr; · iexact HW
    isplitl [HO]; · iexact HO
    iexact R0
  iintro ⟨HO, F100⟩
  iapply (step_send m K (1, 0, 1) c _ (allSlots.drop 5) (dev8_eq c) (src_rs 1 1 c (off4_eq c).1) rfl rfl rfl) $$ [HO R1]
  · isplitr; · iexact HW
    isplitl [HO]; · iexact HO
    iexact R1
  iintro ⟨HO, F101⟩
  iapply (step_send m K (1, 0, 2) c _ (allSlots.drop 6) (dev9_eq c) (src_rs 1 2 c (off4_eq c).2) rfl rfl rfl) $$ [HO R2]
  · isplitr; · iexact HW
    isplitl [HO]; · iexact HO
    iexact R2
  iintro ⟨HO, F102⟩
  iapply (step_got m K (0, 0, 1) c (allSlots.drop 6) (by decide) rfl (by exact amount_half 0 (back 1) 0)) $$ [HO D001]
  · isplitr; · iexact HW
    isplitl [HO]; · iexact HO
    iexact D001
  iintro ⟨HO, G001⟩
  iapply step_ret
  iapply Hk
  isplitl [HO]; · iexact HO
  isplitl [F100 F101 F102]
  · isplitl [F100]; · iexact F100
    isplitl [F101]; · iexact F101
    iexact F102
  iexact G001

/-- Part 5: the other arrivals of chunk 0, and the sum. -/
theorem part5 (c : Dev nD) (v2 v35 v119 : BitVec 32) (Kt : (Σ' (v148 : FVec F S128x256 .f32) (v151 : FVec F S128x256 .f32), FVec F S128x256 .f32) → sProp 𝕄) :
    iprop(world m K ∗ ows c (owe c (allSlots.drop 6)) ∗ due (0, 0, 0) c ∗ due (0, 0, 2) c ∗ got m (0, 0, 1) c ∗ ownPart m c 0
        ∗ ((ows c (owe c (allSlots.drop 6)) ∗ got m (0, 0, 0) c ∗ got m (0, 0, 1) c ∗ got m (0, 0, 2) c ∗ ownPart m c 0) -∗ Kt ⟨k0_pay2 (blkOf (partAt m c) c 0) (up (rsIn m c 0 0)) (up (rsIn m c 0 1)) (up (rsIn m c 0 2)), k0_pay3 (blkOf (partAt m c) c 0) (up (rsIn m c 0 0)) (up (rsIn m c 0 1)) (up (rsIn m c 0 2)), k0_pay4 (F := F)⟩))
      ⊢ Runs c (atBufs (k0_part5 (F := F)) c v2 v35 v119) Kt := by
  unfold atBufs
  simp only [k0_part5_eq_skeleton]; unfold k0_part5_skel
  simp only [semSignalWord, semWaitWord, Prog.lift, Prog.bind_op, Prog.bind_ret, Prog.pure_eq_ret]
  unfold ownPart
  iintro ⟨#HW, HO, D000, D002, G001, HP, Hk⟩
  iapply (step_got m K (0, 0, 0) c (allSlots.drop 6) (by decide) rfl (by exact amount_half 0 (back 0) 0)) $$ [HO D000]
  · isplitr; · iexact HW
    isplitl [HO]; · iexact HO
    iexact D000
  iintro ⟨HO, G000⟩
  iapply (step_got m K (0, 0, 2) c (allSlots.drop 6) (by decide) rfl (by exact amount_half 0 (back 2) 0)) $$ [HO D002]
  · isplitr; · iexact HW
    isplitl [HO]; · iexact HO
    iexact D002
  iintro ⟨HO, G002⟩
  iapply (step_load_blk c pM c 0 (off5_eq c)) $$ HP; iintro HP
  iapply (step_load_got m (0, 0, 0) c rfl rfl (congrArg up (sent_rs m c 0 0))) $$ G000; iintro G000
  iapply (step_load_got m (0, 0, 1) c rfl rfl (congrArg up (sent_rs m c 0 1))) $$ G001; iintro G001
  iapply (step_load_got m (0, 0, 2) c rfl rfl (congrArg up (sent_rs m c 0 2))) $$ G002; iintro G002
  iapply step_ret
  iapply Hk
  isplitl [HO]; · iexact HO
  isplitl [G000]; · iexact G000
  isplitl [G001]; · iexact G001
  isplitl [G002]; · iexact G002
  iexact HP

/-- Part 6: the reduced block of chunk 0 goes to the result and to the sending buffer, and its first two transfers start. -/
theorem part6 (c : Dev nD) (v2 v13 v24 : BitVec 32) (v148 v151 v152 : FVec F S128x256 .f32)
    (h5 : k0_pay5 v148 v151 v152 = outBlk m c c 0) (h6 : k0_pay6 v148 v151 v152 = agAt m c 0) (Kt : PUnit → sProp 𝕄) :
    iprop(world m K ∗ ows c (owe c (allSlots.drop 6)) ∗ outRoom c c 0 ∗ agRoom c 0 ∗ kit (0, 1, 0) c ∗ kit (0, 1, 1) c
        ∗ ((ows c (owe c (allSlots.drop 8)) ∗ outDone m c c 0 ∗ flying (0, 1, 0) c ∗ flying (0, 1, 1) c ∗ sendPay m (0, 1, 2) c) -∗ Kt ⟨⟩))
      ⊢ Runs c (atBufs (k0_part6 (F := F)) c v2 v13 v24 v148 v151 v152) Kt := by
  unfold atBufs
  simp only [k0_part6_eq_skeleton]; unfold k0_part6_skel
  simp only [semSignalWord, semWaitWord, Prog.lift, Prog.bind_op, Prog.bind_ret, Prog.pure_eq_ret]
  rw [h5, h6]
  unfold outRoom outDone agRoom
  iintro ⟨#HW, HO, ⟨%X, HR⟩, ⟨%Y, HG⟩, T010, T011, Hk⟩
  iapply (step_load_blk c oM c 0 (off5_eq c)) $$ HR; iintro HR
  iapply (step_store_blk c oM c 0 (off5_eq c)) $$ HR; iintro HR
  iapply (step_load_half c gM 0 rfl) $$ HG; iintro HG
  iapply (step_store_half c gM 0 rfl) $$ HG; iintro HG
  ihave HS := (share_ag m c 0) $$ HG
  icases HS with ⟨S0, S1, S2⟩
  ihave R0 := (ready_of m (0, 1, 0) c) $$ [S0 T010]
  · isplitl [S0]; · iexact S0
    iexact T010
  ihave R1 := (ready_of m (0, 1, 1) c) $$ [S1 T011]
  · isplitl [S1]; · iexact S1
    iexact T011
  iapply (step_send m K (0, 1, 0) c _ (allSlots.drop 7) (dev10_eq c) (src_ag 0 0 c) rfl rfl rfl) $$ [HO R0]
  · isplitr; · iexact HW
    isplitl [HO]; · iexact HO
    iexact R0
  iintro ⟨HO, F010⟩
  iapply (step_send m K (0, 1, 1) c _ (allSlots.drop 8) (dev11_eq c) (src_ag 0 1 c) rfl rfl rfl) $$ [HO R1]
  · isplitr; · iexact HW
    isplitl [HO]; · iexact HO
    iexact R1
  iintro ⟨HO, F011⟩
  iapply step_ret
  iapply Hk
  isplitl [HO]; · iexact HO
  isplitl [HR]; · iexact HR
  isplitl [F010]; · iexact F010
  isplitl [F011]; · iexact F011
  iexact S2

/-- Part 7: the third transfer of the gathering of chunk 0, and two arrivals of the reduction of chunk 1. -/
theorem part7 (c : Dev nD) (v13 v24 v35 : BitVec 32) (Kt : PUnit → sProp 𝕄) :
    iprop(world m K ∗ ows c (owe c (allSlots.drop 8)) ∗ ready m (0, 1, 2) c ∗ due (1, 0, 1) c ∗ due (1, 0, 0) c
        ∗ ((ows c (owe c (allSlots.drop 9)) ∗ flying (0, 1, 2) c ∗ got m (1, 0, 1) c ∗ got m (1, 0, 0) c) -∗ Kt ⟨⟩))
      ⊢ Runs c (atBufs (k0_part7 (F := F)) c v13 v24 v35) Kt := by
  unfold atBufs
  simp only [k0_part7_eq_skeleton]; unfold k0_part7_skel
  simp only [semSignalWord, semWaitWord, Prog.lift, Prog.bind_op, Prog.bind_ret, Prog.pure_eq_ret]
  iintro ⟨#HW, HO, R2, D101, D100, Hk⟩
  iapply (step_send m K (0, 1, 2) c _ (allSlots.drop 9) (dev12_eq c) (src_ag 0 2 c) rfl rfl rfl) $$ [HO R2]
  · isplitr; · iexact HW
    isplitl [HO]; · iexact HO
    iexact R2
  iintro ⟨HO, F012⟩
  iapply (step_got m K (1, 0, 1) c (allSlots.drop 9) (by decide) rfl (by exact amount_half 0 (back 1) 1)) $$ [HO D101]
  · isplitr; · iexact HW
    isplitl [HO]; · iexact HO
    iexact D101
  iintro ⟨HO, G101⟩
  iapply (step_got m K (1, 0, 0) c (allSlots.drop 9) (by decide) rfl (by exact amount_half 0 (back 0) 1)) $$ [HO D100]
  · isplitr; · iexact HW
    isplitl [HO]; · iexact HO
    iexact D100
  iintro ⟨HO, G100⟩
  iapply step_ret
  iapply Hk
  isplitl [HO]; · iexact HO
  isplitl [F012]; · iexact F012
  isplitl [G101]; · iexact G101
  iexact G100

/-- Part 8: the last arrival of chunk 1; its reduced block goes to the result and to the sending buffer. -/
theorem part8 (c : Dev nD) (v2 : BitVec 32) (Kt : PUnit → sProp 𝕄) :
    iprop(world m K ∗ ows c (owe c (allSlots.drop 9)) ∗ due (1, 0, 2) c ∗ got m (1, 0, 1) c ∗ got m (1, 0, 0) c ∗ ownPart m c 1 ∗ outRoom c c 1 ∗ agRoom c 1
        ∗ ((ows c (owe c (allSlots.drop 9)) ∗ got m (1, 0, 0) c ∗ got m (1, 0, 1) c ∗ got m (1, 0, 2) c ∗ ownPart m c 1 ∗ outDone m c c 1 ∗ tri (fun i => sendPay m i c) 1 1) -∗ Kt ⟨⟩))
      ⊢ Runs c (atBufs (k0_part8 (F := F)) c v2) Kt := by
  unfold atBufs
  simp only [k0_part8_eq_skeleton]; unfold k0_part8_skel
  simp only [semSignalWord, semWaitWord, Prog.lift, Prog.bind_op, Prog.bind_ret, Prog.pure_eq_ret]
  unfold ownPart outRoom outDone agRoom
  iintro ⟨#HW, HO, D102, G101, G100, HP, ⟨%X, HR⟩, ⟨%Y, HG⟩, Hk⟩
  iapply (step_got m K (1, 0, 2) c (allSlots.drop 9) (by decide) rfl (by exact amount_half 0 (back 2) 1)) $$ [HO D102]
  · isplitr; · iexact HW
    isplitl [HO]; · iexact HO
    iexact D102
  iintro ⟨HO, G102⟩
  iapply (step_load_blk c pM c 1 (off6_eq c)) $$ HP; iintro HP
  iapply (step_load_got m (1, 0, 0) c rfl rfl (congrArg up (sent_rs m c 1 0))) $$ G100; iintro G100
  iapply (step_load_got m (1, 0, 1) c rfl rfl (congrArg up (sent_rs m c 1 1))) $$ G101; iintro G101
  iapply (step_load_got m (1, 0, 2) c rfl rfl (congrArg up (sent_rs m c 1 2))) $$ G102; iintro G102
  iapply (step_load_blk c oM c 1 (off6_eq c)) $$ HR; iintro HR
  rw [show k0_pay7 (blkOf (partAt m c) c 1) (up (rsIn m c 1 0)) (up (rsIn m c 1 1)) (up (rsIn m c 1 2)) = outBlk m c c 1 from (outBlk_own m c 1).symm]
  iapply (step_store_blk c oM c 1 (off6_eq c)) $$ HR; iintro HR
  iapply (step_load_half c gM 1 rfl) $$ HG; iintro HG
  rw [show k0_pay8 (blkOf (partAt m c) c 1) (up (rsIn m c 1 0)) (up (rsIn m c 1 1)) (up (rsIn m c 1 2)) = agAt m c 1 from rfl]
  iapply (step_store_half c gM 1 rfl) $$ HG; iintro HG
  ihave HS := (share_ag m c 1) $$ HG
  iapply step_ret
  iapply Hk
  isplitl [HO]; · iexact HO
  isplitl [G100]; · iexact G100
  isplitl [G101]; · iexact G101
  isplitl [G102]; · iexact G102
  isplitl [HP]; · iexact HP
  isplitl [HR]; · iexact HR
  iexact HS

/-- Part 9: the gathering's transfers of chunk 1; nothing is owed after them. -/
theorem part9 (c : Dev nD) (v13 v24 v35 : BitVec 32) (Kt : PUnit → sProp 𝕄) :
    iprop(world m K ∗ ows c (owe c (allSlots.drop 9)) ∗ tri (fun i => ready m i c) 1 1
        ∗ ((ows c (owe c []) ∗ tri (fun i => flying i c) 1 1) -∗ Kt ⟨⟩))
      ⊢ Runs c (atBufs (k0_part9 (F := F)) c v13 v24 v35) Kt := by
  unfold atBufs
  simp only [k0_part9_eq_skeleton]; unfold k0_part9_skel
  simp only [semSignalWord, semWaitWord, Prog.lift, Prog.bind_op, Prog.bind_ret, Prog.pure_eq_ret]
  iintro ⟨#HW, HO, ⟨R0, R1, R2⟩, Hk⟩
  iapply (step_send m K (1, 1, 0) c _ (allSlots.drop 10) (dev13_eq c) (src_ag 1 0 c) rfl rfl rfl) $$ [HO R0]
  · isplitr; · iexact HW
    isplitl [HO]; · iexact HO
    iexact R0
  iintro ⟨HO, F110⟩
  iapply (step_send m K (1, 1, 1) c _ (allSlots.drop 11) (dev14_eq c) (src_ag 1 1 c) rfl rfl rfl) $$ [HO R1]
  · isplitr; · iexact HW
    isplitl [HO]; · iexact HO
    iexact R1
  iintro ⟨HO, F111⟩
  iapply (step_send m K (1, 1, 2) c _ (allSlots.drop 12) (dev15_eq c) (src_ag 1 2 c) rfl rfl rfl) $$ [HO R2]
  · isplitr; · iexact HW
    isplitl [HO]; · iexact HO
    iexact R2
  iintro ⟨HO, F112⟩
  iapply step_ret
  iapply Hk
  isplitl [HO]; · iexact HO
  isplitl [F110]; · iexact F110
  isplitl [F111]; · iexact F111
  iexact F112

/-- Part 10: the blocks of chunk 0 of the devices after and before arrive; the first is stored. -/
theorem part10 (c : Dev nD) (v13 v24 : BitVec 32) (Kt : FVec F S128x256 .f32 → sProp 𝕄) :
    iprop(world m K ∗ ows c (owe c []) ∗ due (0, 1, 1) c ∗ due (0, 1, 0) c ∗ outRoom c (peer 1 c) 0 ∗ outRoom c (peer 0 c) 0
        ∗ ((ows c (owe c []) ∗ got m (0, 1, 1) c ∗ got m (0, 1, 0) c ∗ outDone m c (peer 1 c) 0 ∗ outRoom c (peer 0 c) 0) -∗ Kt (outBlk m c (peer 0 c) 0)))
      ⊢ Runs c (atBufs (k0_part10 (F := F)) c v13 v24) Kt := by
  unfold atBufs
  simp only [k0_part10_eq_skeleton]; unfold k0_part10_skel
  simp only [semSignalWord, semWaitWord, Prog.lift, Prog.bind_op, Prog.bind_ret, Prog.pure_eq_ret]
  unfold outRoom outDone
  iintro ⟨#HW, HO, D011, D010, ⟨%X, HR1⟩, ⟨%Y, HR0⟩, Hk⟩
  iapply (step_got m K (0, 1, 1) c [] (by simp) rfl (by exact amount_half 1 (back 1) 0)) $$ [HO D011]
  · isplitr; · iexact HW
    isplitl [HO]; · iexact HO
    iexact D011
  iintro ⟨HO, G011⟩
  iapply (step_load_got m (0, 1, 1) c rfl rfl (sent_ag m c 0 1)) $$ G011; iintro G011
  iapply (step_load_blk c oM (peer 1 c) 0 (off7_eq c).1) $$ HR1; iintro HR1
  rw [show k0_pay9 (agAt m (peer 1 c) 0) = outBlk m c (peer 1 c) 0 from (outBlk_peer m c 1 0).symm]
  iapply (step_store_blk c oM (peer 1 c) 0 (off7_eq c).1) $$ HR1; iintro HR1
  iapply (step_got m K (0, 1, 0) c [] (by simp) rfl (by exact amount_half 1 (back 0) 0)) $$ [HO D010]
  · isplitr; · iexact HW
    isplitl [HO]; · iexact HO
    iexact D010
  iintro ⟨HO, G010⟩
  iapply (step_load_got m (0, 1, 0) c rfl rfl (sent_ag m c 0 0)) $$ G010; iintro G010
  iapply (step_load_blk c oM (peer 0 c) 0 (off8_eq c)) $$ HR0; iintro HR0
  rw [show k0_pay10 (agAt m (peer 0 c) 0) = outBlk m c (peer 0 c) 0 from (outBlk_peer m c 0 0).symm]
  iapply step_ret
  iapply Hk
  isplitl [HO]; · iexact HO
  isplitl [G011]; · iexact G011
  isplitl [G010]; · iexact G010
  isplitl [HR1]; · iexact HR1
  iexists Y; iexact HR0

/-- Part 11: the blocks of chunk 0 of the devices before and opposite are stored; one of chunk 1 arrives. -/
theorem part11 (c : Dev nD) (v13 v24 v35 : BitVec 32) (Kt : FVec F S128x256 .f32 → sProp 𝕄) :
    iprop(world m K ∗ ows c (owe c []) ∗ outRoom c (peer 0 c) 0 ∗ outRoom c (peer 2 c) 0 ∗ due (0, 1, 2) c ∗ due (1, 1, 1) c
        ∗ ((ows c (owe c []) ∗ outDone m c (peer 0 c) 0 ∗ outDone m c (peer 2 c) 0 ∗ got m (0, 1, 2) c ∗ got m (1, 1, 1) c) -∗ Kt (outBlk m c (peer 1 c) 1)))
      ⊢ Runs c (atBufs (k0_part11 (F := F)) c v13 v24 v35 (outBlk m c (peer 0 c) 0)) Kt := by
  unfold atBufs
  simp only [k0_part11_eq_skeleton]; unfold k0_part11_skel
  simp only [semSignalWord, semWaitWord, Prog.lift, Prog.bind_op, Prog.bind_ret, Prog.pure_eq_ret]
  unfold outRoom outDone
  iintro ⟨#HW, HO, ⟨%X, HR0⟩, ⟨%Y, HR2⟩, D012, D111, Hk⟩
  iapply (step_store_blk c oM (peer 0 c) 0 (off8_eq c)) $$ HR0; iintro HR0
  iapply (step_got m K (0, 1, 2) c [] (by simp) rfl (by exact amount_half 1 (back 2) 0)) $$ [HO D012]
  · isplitr; · iexact HW
    isplitl [HO]; · iexact HO
    iexact D012
  iintro ⟨HO, G012⟩
  iapply (step_load_got m (0, 1, 2) c rfl rfl (sent_ag m c 0 2)) $$ G012; iintro G012
  iapply (step_load_blk c oM (peer 2 c) 0 (off7_eq c).2) $$ HR2; iintro HR2
  rw [show k0_pay11 (agAt m (peer 2 c) 0) = outBlk m c (peer 2 c) 0 from (outBlk_peer m c 2 0).symm]
  iapply (step_store_blk c oM (peer 2 c) 0 (off7_eq c).2) $$ HR2; iintro HR2
  iapply (step_got m K (1, 1, 1) c [] (by simp) rfl (by exact amount_half 1 (back 1) 1)) $$ [HO D111]
  · isplitr; · iexact HW
    isplitl [HO]; · iexact HO
    iexact D111
  iintro ⟨HO, G111⟩
  iapply (step_load_got m (1, 1, 1) c rfl rfl (sent_ag m c 1 1)) $$ G111; iintro G111
  rw [show k0_pay12 (agAt m (peer 1 c) 1) = outBlk m c (peer 1 c) 1 from (outBlk_peer m c 1 1).symm]
  iapply step_ret
  iapply Hk
  isplitl [HO]; · iexact HO
  isplitl [HR0]; · iexact HR0
  isplitl [HR2]; · iexact HR2
  isplitl [G012]; · iexact G012
  iexact G111

/-- Part 12: the blocks of chunk 1 of the devices after and before are stored; the last one arrives. -/
theorem part12 (c : Dev nD) (v13 v24 v35 : BitVec 32) (Kt : (Σ' (v352 : FVec F S128x256 .f32), BitVec 32) → sProp 𝕄) :
    iprop(world m K ∗ ows c (owe c []) ∗ outRoom c (peer 1 c) 1 ∗ outRoom c (peer 0 c) 1 ∗ due (1, 1, 0) c ∗ due (1, 1, 2) c
        ∗ ((ows c (owe c []) ∗ outDone m c (peer 1 c) 1 ∗ outDone m c (peer 0 c) 1 ∗ got m (1, 1, 0) c ∗ got m (1, 1, 2) c) -∗ Kt ⟨outBlk m c (peer 2 c) 1, 128#32⟩))
      ⊢ Runs c (atBufs (k0_part12 (F := F)) c v13 v24 v35 (outBlk m c (peer 1 c) 1)) Kt := by
  unfold atBufs
  simp only [k0_part12_eq_skeleton]; unfold k0_part12_skel
  simp only [semSignalWord, semWaitWord, Prog.lift, Prog.bind_op, Prog.bind_ret, Prog.pure_eq_ret]
  unfold outRoom outDone
  iintro ⟨#HW, HO, ⟨%X, HR1⟩, ⟨%Y, HR0⟩, D110, D112, Hk⟩
  iapply (step_load_blk c oM (peer 1 c) 1 (off9_eq c).1) $$ HR1; iintro HR1
  iapply (step_store_blk c oM (peer 1 c) 1 (off9_eq c).1) $$ HR1; iintro HR1
  iapply (step_got m K (1, 1, 0) c [] (by simp) rfl (by exact amount_half 1 (back 0) 1)) $$ [HO D110]
  · isplitr; · iexact HW
    isplitl [HO]; · iexact HO
    iexact D110
  iintro ⟨HO, G110⟩
  iapply (step_load_got m (1, 1, 0) c rfl rfl (sent_ag m c 1 0)) $$ G110; iintro G110
  iapply (step_load_blk c oM (peer 0 c) 1 (off10_eq c)) $$ HR0; iintro HR0
  rw [show k0_pay13 (agAt m (peer 0 c) 1) = outBlk m c (peer 0 c) 1 from (outBlk_peer m c 0 1).symm]
  iapply (step_store_blk c oM (peer 0 c) 1 (off10_eq c)) $$ HR0; iintro HR0
  iapply (step_got m K (1, 1, 2) c [] (by simp) rfl (by exact amount_half 1 (back 2) 1)) $$ [HO D112]
  · isplitr; · iexact HW
    isplitl [HO]; · iexact HO
    iexact D112
  iintro ⟨HO, G112⟩
  iapply (step_load_got m (1, 1, 2) c rfl rfl (sent_ag m c 1 2)) $$ G112; iintro G112
  rw [show k0_pay14 (agAt m (peer 2 c) 1) = outBlk m c (peer 2 c) 1 from (outBlk_peer m c 2 1).symm]
  iapply step_ret
  iapply Hk
  isplitl [HO]; · iexact HO
  isplitl [HR1]; · iexact HR1
  isplitl [HR0]; · iexact HR0
  isplitl [G110]; · iexact G110
  iexact G112

/-- Part 13: the last block is stored; the first four transfers have left. -/
theorem part13 (c : Dev nD) (v35 c128 : BitVec 32) (Kt : PUnit → sProp 𝕄) :
    iprop(world m K ∗ ows c (owe c []) ∗ outRoom c (peer 2 c) 1 ∗ flying (0, 0, 0) c ∗ flying (0, 0, 1) c ∗ flying (0, 0, 2) c ∗ flying (0, 1, 0) c
        ∗ ((ows c (owe c []) ∗ outDone m c (peer 2 c) 1 ∗ left m (0, 0, 0) c ∗ left m (0, 0, 1) c ∗ left m (0, 0, 2) c ∗ left m (0, 1, 0) c) -∗ Kt ⟨⟩))
      ⊢ Runs c (atBufs (k0_part13 (F := F)) c v35 (outBlk m c (peer 2 c) 1) c128) Kt := by
  unfold atBufs
  simp only [k0_part13_eq_skeleton]; unfold k0_part13_skel
  simp only [semSignalWord, semWaitWord, Prog.lift, Prog.bind_op, Prog.bind_ret, Prog.pure_eq_ret]
  unfold outRoom outDone
  iintro ⟨#HW, HO, ⟨%X, HR2⟩, F000, F001, F002, F010, Hk⟩
  iapply (step_load_blk c oM (peer 2 c) 1 (off9_eq c).2) $$ HR2; iintro HR2
  iapply (step_store_blk c oM (peer 2 c) 1 (off9_eq c).2) $$ HR2; iintro HR2
  iapply (step_left m K (0, 0, 0) c rfl (credit_rs (peer 0 c) 0 (off1_eq c))) $$ [HO F000]
  · isplitr; · iexact HW
    isplitl [HO]; · iexact HO
    iexact F000
  iintro ⟨HO, E000⟩
  iapply (step_left m K (0, 0, 1) c rfl (credit_rs (peer 1 c) 0 (off2_eq c).1)) $$ [HO F001]
  · isplitr; · iexact HW
    isplitl [HO]; · iexact HO
    iexact F001
  iintro ⟨HO, E001⟩
  iapply (step_left m K (0, 0, 2) c rfl (credit_rs (peer 2 c) 0 (off2_eq c).2)) $$ [HO F002]
  · isplitr; · iexact HW
    isplitl [HO]; · iexact HO
    iexact F002
  iintro ⟨HO, E002⟩
  iapply (step_left m K (0, 1, 0) c rfl (amount_g 0)) $$ [HO F010]
  · isplitr; · iexact HW
    isplitl [HO]; · iexact HO
    iexact F010
  iintro ⟨HO, E010⟩
  iapply step_ret
  iapply Hk
  isplitl [HO]; · iexact HO
  isplitl [HR2]; · iexact HR2
  isplitl [E000]; · iexact E000
  isplitl [E001]; · iexact E001
  isplitl [E002]; · iexact E002
  iexact E010

/-- Part 14: four more transfers have left. -/
theorem part14 (c : Dev nD)  (Kt : PUnit → sProp 𝕄) :
    iprop(world m K ∗ ows c (owe c []) ∗ flying (0, 1, 1) c ∗ flying (0, 1, 2) c ∗ flying (1, 0, 0) c ∗ flying (1, 0, 1) c
        ∗ ((ows c (owe c []) ∗ left m (0, 1, 1) c ∗ left m (0, 1, 2) c ∗ left m (1, 0, 0) c ∗ left m (1, 0, 1) c) -∗ Kt ⟨⟩))
      ⊢ Runs c (atBufs (k0_part14 (F := F)) c) Kt := by
  unfold atBufs
  simp only [k0_part14_eq_skeleton]; unfold k0_part14_skel
  simp only [semSignalWord, semWaitWord, Prog.lift, Prog.bind_op, Prog.bind_ret, Prog.pure_eq_ret]
  iintro ⟨#HW, HO, F011, F012, F100, F101, Hk⟩
  iapply (step_left m K (0, 1, 1) c rfl (amount_g 0)) $$ [HO F011]
  · isplitr; · iexact HW
    isplitl [HO]; · iexact HO
    iexact F011
  iintro ⟨HO, E011⟩
  iapply (step_left m K (0, 1, 2) c rfl (amount_g 0)) $$ [HO F012]
  · isplitr; · iexact HW
    isplitl [HO]; · iexact HO
    iexact F012
  iintro ⟨HO, E012⟩
  iapply (step_left m K (1, 0, 0) c rfl (credit_rs (peer 0 c) 1 (off3_eq c))) $$ [HO F100]
  · isplitr; · iexact HW
    isplitl [HO]; · iexact HO
    iexact F100
  iintro ⟨HO, E100⟩
  iapply (step_left m K (1, 0, 1) c rfl (credit_rs (peer 1 c) 1 (off4_eq c).1)) $$ [HO F101]
  · isplitr; · iexact HW
    isplitl [HO]; · iexact HO
    iexact F101
  iintro ⟨HO, E101⟩
  iapply step_ret
  iapply Hk
  isplitl [HO]; · iexact HO
  isplitl [E011]; · iexact E011
  isplitl [E012]; · iexact E012
  isplitl [E100]; · iexact E100
  iexact E101

end Cert.GemmSilu

end
-- ==== Proof.Whole.lean ====
/-
# The body whole

The parts one after another, from what device `c` holds when its body starts to what it holds when it ends.
-/
module

public import proofs.«01_k».proof.Proof.Body

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CIx → ℕ)

/-! ## Between the parts -/

/-- A program and what follows it. -/
theorem step_bind (c : Dev nD) {α β : Type} (p : Prog (TpuEff nD τ sig (Elt F) Λ₀ .tc) α) (k : α → Prog (TpuEff nD τ sig (Elt F) Λ₀ .tc) β) (Q : β → sProp 𝕄) :
    Runs c p (fun a => Runs c (k a) Q) ⊢ Runs c (p >>= k) Q := by
  unfold Runs; rw [wp_bind]

/-- Every device's row block: its own and the three others'. -/
theorem bigSep_rows (c : Dev nD) (Φ : Fin 4 → sProp 𝕄) :
    bigSep Finset.univ Φ = iprop(Φ c ∗ Φ (peer 0 c) ∗ Φ (peer 1 c) ∗ Φ (peer 2 c)) :=
  bigSep_univ_eq_bigSepL [c, peer 0 c, peer 1 c, peer 2 c] (by revert c; decide) (by revert c; decide) Φ

theorem bigSep_three (Φ : Fin 3 → sProp 𝕄) : bigSep Finset.univ Φ = iprop(Φ 0 ∗ Φ 1 ∗ Φ 2) := bigSep_univ_eq_bigSepL [0, 1, 2] (by decide) (by decide) Φ
theorem bigSep_two (Φ : Fin 2 → sProp 𝕄) : bigSep Finset.univ Φ = iprop(Φ 0 ∗ Φ 1) := bigSep_univ_eq_bigSepL [0, 1] (by decide) (by decide) Φ
theorem bigSep_blocks (c : Dev nD) (Φ : Fin 4 × Fin 2 → sProp 𝕄) :
    bigSep Finset.univ Φ = iprop((Φ (c, 0) ∗ Φ (c, 1)) ∗ (Φ (peer 0 c, 0) ∗ Φ (peer 0 c, 1)) ∗ (Φ (peer 1 c, 0) ∗ Φ (peer 1 c, 1)) ∗ (Φ (peer 2 c, 0) ∗ Φ (peer 2 c, 1))) := by
  rw [bigSep_univ_prod, bigSep_rows c, bigSep_two, bigSep_two, bigSep_two, bigSep_two]
/-- All the transfers, chunk by chunk and phase by phase. -/
abbrev all (Φ : Slot → sProp 𝕄) : sProp 𝕄 := iprop(tri Φ 0 0 ∗ tri Φ 1 0 ∗ tri Φ 0 1 ∗ tri Φ 1 1)
theorem bigSep_slots (Φ : Slot → sProp 𝕄) : bigSep Finset.univ Φ = all Φ := by
  rw [bigSep_univ_prod, bigSep_two, bigSep_univ_prod, bigSep_univ_prod, bigSep_two, bigSep_two, bigSep_three, bigSep_three, bigSep_three, bigSep_three]
  have hL : (iprop((tri Φ 0 0 ∗ tri Φ 0 1) ∗ tri Φ 1 0 ∗ tri Φ 1 1) : sProp 𝕄) ⊢ (all Φ : sProp 𝕄) := by
    iintro ⟨⟨H1, H2⟩, H3, H4⟩
    isplitl [H1]; · iexact H1
    isplitl [H3]; · iexact H3
    isplitl [H2] <;> iassumption
  have hR : (all Φ : sProp 𝕄) ⊢ (iprop((tri Φ 0 0 ∗ tri Φ 0 1) ∗ tri Φ 1 0 ∗ tri Φ 1 1) : sProp 𝕄) := by
    iintro ⟨H1, H3, H2, H4⟩
    isplitl [H1 H2]
    · isplitl [H1] <;> iassumption
    isplitl [H3] <;> iassumption
  exact BI.equiv_iff.mp ⟨hL, hR⟩

theorem sendPay_rs (c : Dev nD) (h : Fin 2) (d : Fin 3) :
    sendPay m (h, 0, d) c = owns (c : Thread nD τ) (partM (peer d c) h) fullShare (blkOf (partAt m c) (peer d c) h) := rfl
/-- Device `c`'s partial product, cut into the blocks it keeps and the blocks it sends. -/
theorem split_part (c : Dev nD) :
    (owns (c : Thread nD τ) pM fullShare (partAt m c) : sProp 𝕄)
      ⊢ iprop((ownPart m c 0 ∗ ownPart m c 1) ∗ tri (fun i => sendPay m i c) 0 0 ∗ tri (fun i => sendPay m i c) 1 0) := by
  refine (owns_rects (c : Thread nD τ) pM fullShare (fun x : Fin 4 × Fin 2 => blkR x.1 x.2) (fun _ _ => rfl) blkR_disjoint blkR_cover (partAt m c)).trans ?_
  rw [bigSep_blocks c]
  simp only [tri, sendPay_rs]
  iintro ⟨H, ⟨A0, A1⟩, ⟨B0, B1⟩, C0, C1⟩
  isplitl [H]; · iexact H
  isplitl [A0 B0 C0]
  · isplitl [A0]; · iexact A0
    isplitl [B0]; · iexact B0
    iexact C0
  · isplitl [A1]; · iexact A1
    isplitl [B1]; · iexact B1
    iexact C1

/-- The halves that the barrier hands over, in the order of the transfers. -/
theorem split_rooms (c : Dev nD) :
    (bigSep Finset.univ fun d => barPay (F := F) d c : sProp 𝕄) ⊢ all fun i => room i (tgt i c) := by
  rw [← bigSep_slots]
  unfold barPay
  rw [← bigSep_univ_prod (fun x : Fin 3 × (Fin 2 × Fin 2) => (room (F := F) (x.2.1, x.2.2, x.1) (peer x.1 c) : sProp 𝕄)),
    bigSep_univ_equiv (⟨fun i => (i.2.2, i.1, i.2.1), fun x => (x.2.1, x.2.2, x.1), fun _ => rfl, fun _ => rfl⟩ : Slot ≃ Fin 3 × (Fin 2 × Fin 2))]
  exact .rfl

/-- Three sources, three halves and three transfers' tokens make three transfers ready. -/
theorem tri_ready (h ph : Fin 2) (c : Dev nD) :
    iprop(tri (fun i => sendPay m i c) h ph ∗ tri (fun i => kit (F := F) i c) h ph) ⊢ tri (fun i => ready m i c) h ph := by
  iintro ⟨⟨A, B, C⟩, A', B', C'⟩
  isplitl [A A']
  · iapply (ready_of m (h, ph, 0) c); isplitl [A] <;> iassumption
  isplitl [B B']
  · iapply (ready_of m (h, ph, 1) c); isplitl [B] <;> iassumption
  iapply (ready_of m (h, ph, 2) c); isplitl [C] <;> iassumption
theorem tri_kit (h ph : Fin 2) (c : Dev nD) :
    iprop(tri (fun i => room (F := F) i (tgt i c)) h ph ∗ tri (fun i => toks (F := F) i c) h ph) ⊢ tri (fun i => kit (F := F) i c) h ph := by
  unfold kit
  iintro ⟨⟨A, B, C⟩, A', B', C'⟩
  isplitl [A A']
  · isplitl [A] <;> iassumption
  isplitl [B B']
  · isplitl [B] <;> iassumption
  isplitl [C] <;> iassumption

/-! ## The body -/

/-- Both chunks of a row block. -/
abbrev pair (Φ : Fin 4 → Fin 2 → sProp 𝕄) (r : Fin 4) : sProp 𝕄 := iprop(Φ r 0 ∗ Φ r 1)
/-- All eight blocks of the result. -/
abbrev rows (c : Dev nD) (Φ : Fin 4 → Fin 2 → sProp 𝕄) : sProp 𝕄 := iprop(pair Φ c ∗ pair Φ (peer 0 c) ∗ pair Φ (peer 1 c) ∗ pair Φ (peer 2 c))

/-- What the body of device `c` starts from, beside the world. -/
def bodyIn (c : Dev nD) : sProp 𝕄 :=
  iprop(ows c (O₀ c)
    ∗ (dutyTok ER (barCell (peer 0 c)) 0 0 ∗ dutyTok ER (barCell (peer 1 c)) 0 1 ∗ dutyTok ER (barCell (peer 2 c)) 0 2)
    ∗ (barGive 0 c ∗ barGive 1 c ∗ barGive 2 c)
    ∗ owns (c : Thread nD τ) aM fullShare (aAt m c) ∗ owns (c : Thread nD τ) bM fullShare (bAt m c)
    ∗ (∃ X, owns (c : Thread nD τ) pM fullShare X)
    ∗ cred (tallyAt (barCell c) () 3) ∗ atPos ER (barCell c) 0 ∅ 0
    ∗ (all (fun i => toks i c) ∗ all (fun i => due i c))
    ∗ rows c (outRoom c) ∗ agRoom c 0 ∗ agRoom c 1)
/-- What it ends with. -/
def bodyOut (c : Dev nD) : sProp 𝕄 :=
  iprop(ows c (owe c [])
    ∗ owns (c : Thread nD τ) aM fullShare (aAt m c) ∗ owns (c : Thread nD τ) bM fullShare (bAt m c)
    ∗ semVal (barCell c) 0 ∗ (ownPart m c 0 ∗ ownPart m c 1)
    ∗ (all (fun i => left m i c) ∗ all (fun i => got m i c))
    ∗ rows c (outDone m c))

/-- Part 1 only computes: the device's own number, and words no address is taken from. -/
theorem part1 (c : Dev nD) (Kt : (Σ' (d0 : Dev nD) (v2 : BitVec 32) (v13 : BitVec 32) (v24 : BitVec 32), BitVec 32) → sProp 𝕄) :
    iprop(∀ v2 v13 v24 v35, Kt ⟨c, v2, v13, v24, v35⟩) ⊢ Runs c (atBufs (k0_part1 (F := F))) Kt := by
  unfold atBufs
  simp only [k0_part1_eq_skeleton]; unfold k0_part1_skel
  simp only [Prog.lift, Prog.bind_op, Prog.bind_ret, Prog.pure_eq_ret]
  iintro Hk
  unfold Runs
  rw [wp_deviceId]
  iapply step_ret
  iapply Hk

set_option maxRecDepth 8000 in
/-- Part 15: all the parts, and three more transfers that have left. -/
theorem part15 (c : Dev nD) (Kt : PUnit → sProp 𝕄) :
    iprop(world m K ∗ bodyIn m c
        ∗ ((ows c (owe c []) ∗ flying (1, 1, 2) c
            ∗ owns (c : Thread nD τ) aM fullShare (aAt m c) ∗ owns (c : Thread nD τ) bM fullShare (bAt m c)
            ∗ semVal (barCell c) 0 ∗ (ownPart m c 0 ∗ ownPart m c 1)
            ∗ (tri (fun i => left m i c) 0 0 ∗ tri (fun i => left m i c) 1 0 ∗ tri (fun i => left m i c) 0 1 ∗ left m (1, 1, 0) c ∗ left m (1, 1, 1) c)
            ∗ all (fun i => got m i c) ∗ rows c (outDone m c)) -∗ Kt ⟨⟩))
      ⊢ Runs c (atBufs (k0_part15 (F := F))) Kt := by
  unfold atBufs bodyIn
  simp only [k0_part15_eq_skeleton]; unfold k0_part15_skel
  iintro ⟨#HW, ⟨HO, Htk, Hgive, Ha, Hb, Hp, Hcr, Hat, ⟨⟨T00, T10, T01, T11⟩, ⟨D000, D001, D002⟩, ⟨D100, D101, D102⟩, ⟨D010, D011, D012⟩, D110, D111, D112⟩, ⟨⟨Qc0, Qc1⟩, ⟨Q00, Q01⟩, ⟨Q10, Q11⟩, Q20, Q21⟩, A0, A1⟩, Hk⟩
  iapply step_bind
  iapply (part1 c _)
  iintro %v2 %v13 %v24 %v35
  dsimp only
  iapply step_bind
  iapply (part2 m K c v13 v24 v35 _)
  isplitr; · iexact HW
  isplitl [HO]; · iexact HO
  isplitl [Htk]; · iexact Htk
  isplitl [Hgive]; · iexact Hgive
  isplitl [Ha]; · iexact Ha
  isplitl [Hb]; · iexact Hb
  isplitl [Hp]; · iexact Hp
  isplitl [Hcr]; · iexact Hcr
  isplitl [Hat]; · iexact Hat
  iintro ⟨HO, Ha, Hb, Hp, Hz, Hbp⟩
  ihave Hp := (split_part m c) $$ Hp
  icases Hp with ⟨⟨P0, P1⟩, S00, S10⟩
  ihave Hr := (split_rooms (F := F) c) $$ Hbp
  icases Hr with ⟨R00, R10, R01, R11⟩
  ihave K00 := (tri_kit (F := F) 0 0 c) $$ [R00 T00]
  · isplitl [R00]; · iexact R00
    iexact T00
  ihave K10 := (tri_kit (F := F) 1 0 c) $$ [R10 T10]
  · isplitl [R10]; · iexact R10
    iexact T10
  ihave K01 := (tri_kit (F := F) 0 1 c) $$ [R01 T01]
  · isplitl [R01]; · iexact R01
    iexact T01
  ihave K11 := (tri_kit (F := F) 1 1 c) $$ [R11 T11]
  · isplitl [R11]; · iexact R11
    iexact T11
  ihave R00 := (tri_ready m 0 0 c) $$ [S00 K00]
  · isplitl [S00]; · iexact S00
    iexact K00
  ihave R10 := (tri_ready m 1 0 c) $$ [S10 K10]
  · isplitl [S10]; · iexact S10
    iexact K10
  icases K01 with ⟨K010, K011, K012⟩
  iapply step_bind
  iapply (part3 m K c v13 v24 v35 _)
  isplitr; · iexact HW
  isplitl [HO]; · iexact HO
  isplitl [R00]; · iexact R00
  iintro ⟨HO, F00⟩
  iapply step_bind
  iapply (part4 m K c v13 v24 v35 _)
  isplitr; · iexact HW
  isplitl [HO]; · iexact HO
  isplitl [R10]; · iexact R10
  isplitl [D001]; · iexact D001
  iintro ⟨HO, F10, G001⟩
  iapply step_bind
  iapply (part5 m K c v2 v35 _ _)
  isplitr; · iexact HW
  isplitl [HO]; · iexact HO
  isplitl [D000]; · iexact D000
  isplitl [D002]; · iexact D002
  isplitl [G001]; · iexact G001
  isplitl [P0]; · iexact P0
  iintro ⟨HO, G000, G001, G002, P0⟩
  dsimp only
  iapply step_bind
  iapply (part6 m K c v2 v13 v24 _ _ _ (outBlk_own m c 0).symm rfl _)
  isplitr; · iexact HW
  isplitl [HO]; · iexact HO
  isplitl [Qc0]; · iexact Qc0
  isplitl [A0]; · iexact A0
  isplitl [K010]; · iexact K010
  isplitl [K011]; · iexact K011
  iintro ⟨HO, Qc0, F010, F011, S012⟩
  ihave R012 := (ready_of m (0, 1, 2) c) $$ [S012 K012]
  · isplitl [S012]; · iexact S012
    iexact K012
  iapply step_bind
  iapply (part7 m K c v13 v24 v35 _)
  isplitr; · iexact HW
  isplitl [HO]; · iexact HO
  isplitl [R012]; · iexact R012
  isplitl [D101]; · iexact D101
  isplitl [D100]; · iexact D100
  iintro ⟨HO, F012, G101, G100⟩
  iapply step_bind
  iapply (part8 m K c v2 _)
  isplitr; · iexact HW
  isplitl [HO]; · iexact HO
  isplitl [D102]; · iexact D102
  isplitl [G101]; · iexact G101
  isplitl [G100]; · iexact G100
  isplitl [P1]; · iexact P1
  isplitl [Qc1]; · iexact Qc1
  isplitl [A1]; · iexact A1
  iintro ⟨HO, G100, G101, G102, P1, Qc1, S11⟩
  ihave R11 := (tri_ready m 1 1 c) $$ [S11 K11]
  · isplitl [S11]; · iexact S11
    iexact K11
  iapply step_bind
  iapply (part9 m K c v13 v24 v35 _)
  isplitr; · iexact HW
  isplitl [HO]; · iexact HO
  isplitl [R11]; · iexact R11
  iintro ⟨HO, F110, F111, F112⟩
  iapply step_bind
  iapply (part10 m K c v13 v24 _)
  isplitr; · iexact HW
  isplitl [HO]; · iexact HO
  isplitl [D011]; · iexact D011
  isplitl [D010]; · iexact D010
  isplitl [Q10]; · iexact Q10
  isplitl [Q00]; · iexact Q00
  iintro ⟨HO, G011, G010, Q10, Q00⟩
  iapply step_bind
  iapply (part11 m K c v13 v24 v35 _)
  isplitr; · iexact HW
  isplitl [HO]; · iexact HO
  isplitl [Q00]; · iexact Q00
  isplitl [Q20]; · iexact Q20
  isplitl [D012]; · iexact D012
  isplitl [D111]; · iexact D111
  iintro ⟨HO, Q00, Q20, G012, G111⟩
  iapply step_bind
  iapply (part12 m K c v13 v24 v35 _)
  isplitr; · iexact HW
  isplitl [HO]; · iexact HO
  isplitl [Q11]; · iexact Q11
  isplitl [Q01]; · iexact Q01
  isplitl [D110]; · iexact D110
  isplitl [D112]; · iexact D112
  iintro ⟨HO, Q11, Q01, G110, G112⟩
  dsimp only
  icases F00 with ⟨F000, F001, F002⟩
  icases F10 with ⟨F100, F101, F102⟩
  iapply step_bind
  iapply (part13 m K c v35 _ _)
  isplitr; · iexact HW
  isplitl [HO]; · iexact HO
  isplitl [Q21]; · iexact Q21
  isplitl [F000]; · iexact F000
  isplitl [F001]; · iexact F001
  isplitl [F002]; · iexact F002
  isplitl [F010]; · iexact F010
  iintro ⟨HO, Q21, E000, E001, E002, E010⟩
  iapply step_bind
  iapply (part14 m K c _)
  isplitr; · iexact HW
  isplitl [HO]; · iexact HO
  isplitl [F011]; · iexact F011
  isplitl [F012]; · iexact F012
  isplitl [F100]; · iexact F100
  isplitl [F101]; · iexact F101
  iintro ⟨HO, E011, E012, E100, E101⟩
  simp only [Prog.lift, Prog.bind_op, Prog.bind_ret, Prog.pure_eq_ret]
  iapply (step_left m K (1, 0, 2) c rfl (credit_rs (peer 2 c) 1 (off4_eq c).2)) $$ [HO F102]
  · isplitr; · iexact HW
    isplitl [HO]; · iexact HO
    iexact F102
  iintro ⟨HO, E102⟩
  iapply (step_left m K (1, 1, 0) c rfl (amount_g 1)) $$ [HO F110]
  · isplitr; · iexact HW
    isplitl [HO]; · iexact HO
    iexact F110
  iintro ⟨HO, E110⟩
  iapply (step_left m K (1, 1, 1) c rfl (amount_g 1)) $$ [HO F111]
  · isplitr; · iexact HW
    isplitl [HO]; · iexact HO
    iexact F111
  iintro ⟨HO, E111⟩
  iapply step_ret
  iapply Hk
  isplitl [HO]; · iexact HO
  isplitl [F112]; · iexact F112
  isplitl [Ha]; · iexact Ha
  isplitl [Hb]; · iexact Hb
  isplitl [Hz]; · iexact Hz
  isplitl [P0 P1]
  · isplitl [P0]; · iexact P0
    iexact P1
  isplitl [E000 E001 E002 E100 E101 E102 E010 E011 E012 E110 E111]
  · isplitl [E000 E001 E002]
    · isplitl [E000]; · iexact E000
      isplitl [E001]; · iexact E001
      iexact E002
    isplitl [E100 E101 E102]
    · isplitl [E100]; · iexact E100
      isplitl [E101]; · iexact E101
      iexact E102
    isplitl [E010 E011 E012]
    · isplitl [E010]; · iexact E010
      isplitl [E011]; · iexact E011
      iexact E012
    isplitl [E110]; · iexact E110
    iexact E111
  isplitl [G000 G001 G002 G100 G101 G102 G010 G011 G012 G110 G111 G112]
  · isplitl [G000 G001 G002]
    · isplitl [G000]; · iexact G000
      isplitl [G001]; · iexact G001
      iexact G002
    isplitl [G100 G101 G102]
    · isplitl [G100]; · iexact G100
      isplitl [G101]; · iexact G101
      iexact G102
    isplitl [G010 G011 G012]
    · isplitl [G010]; · iexact G010
      isplitl [G011]; · iexact G011
      iexact G012
    isplitl [G110]; · iexact G110
    isplitl [G111]; · iexact G111
    iexact G112
  isplitl [Qc0 Qc1]
  · isplitl [Qc0]; · iexact Qc0
    iexact Qc1
  isplitl [Q00 Q01]
  · isplitl [Q00]; · iexact Q00
    iexact Q01
  isplitl [Q10 Q11]
  · isplitl [Q10]; · iexact Q10
    iexact Q11
  isplitl [Q20]; · iexact Q20
  iexact Q21

/-- The body of device `c`: from what it is given to all its transfers done and all eight blocks of the result written. -/
theorem run_body (c : Dev nD) (Kt : PUnit → sProp 𝕄) :
    iprop(world m K ∗ bodyIn m c ∗ (bodyOut m c -∗ Kt ⟨⟩)) ⊢ Runs c (atBufs (cc0_body (F := F))) Kt := by
  unfold atBufs cc0_body bodyOut
  iintro ⟨#HW, Hin, Hk⟩
  iapply step_bind
  iapply (part15 m K c _)
  isplitr; · iexact HW
  isplitl [Hin]; · iexact Hin
  iintro ⟨HO, F112, Ha, Hb, Hz, HP, ⟨E00, E10, E01, E110, E111⟩, HG, HQ⟩
  simp only [Prog.lift, Prog.bind_op, Prog.bind_ret, Prog.pure_eq_ret]
  iapply (step_left m K (1, 1, 2) c rfl (amount_g 1)) $$ [HO F112]
  · isplitr; · iexact HW
    isplitl [HO]; · iexact HO
    iexact F112
  iintro ⟨HO, E112⟩
  iapply step_ret
  iapply Hk
  isplitl [HO]; · iexact HO
  isplitl [Ha]; · iexact Ha
  isplitl [Hb]; · iexact Hb
  isplitl [Hz]; · iexact Hz
  isplitl [HP]; · iexact HP
  isplitl [E00 E10 E01 E110 E111 E112 HG]
  · isplitl [E00 E10 E01 E110 E111 E112]
    · isplitl [E00]; · iexact E00
      isplitl [E10]; · iexact E10
      isplitl [E01]; · iexact E01
      isplitl [E110]; · iexact E110
      isplitl [E111]; · iexact E111
      iexact E112
    iexact HG
  iexact HQ

end Cert.GemmSilu

end
-- ==== Proof.Buffers.lean ====
/-
# The buffers, whole and in parts

A buffer comes to the kernel whole, is handed round in halves or blocks, and is whole again at the end.
-/
module

public import proofs.«01_k».proof.Proof.Whole

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CIx → ℕ)

/-! ## Parts of any buffer -/

/-- Every element type has an element. -/
instance elt_nonempty (e : EltTy) : Nonempty (Elt F e) := by
  cases e <;> first | exact ⟨(0 : BitVec _)⟩ | exact ⟨FloatOps.ofBits _ 0⟩

/-- A memref of device `c` at any contents. -/
def any {s : Shape} {e : EltTy} (b : Memref sig .tc .vmem s e) (c : Dev nD) : sProp 𝕄 := iprop(∃ X, owns (c : Thread nD τ) b fullShare X)

theorem any_intro {s : Shape} {e : EltTy} (b : Memref sig .tc .vmem s e) (c : Dev nD) (X : s.Idx → Elt F e) :
    owns (c : Thread nD τ) b fullShare X ⊢ any b c := by
  unfold any; iintro H; iexists X; iexact H

/-- Parts that cover a memref, each at contents of its own, are the memref at the glued contents. -/
theorem owns_glue {s : Shape} {e : EltTy} (b : Memref sig .tc .vmem s e) (c : Dev nD) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) (Z : (t : T) → (r t).shape.Idx → Elt F e) :
    (bigSep Finset.univ fun t => owns (c : Thread nD τ) (b.slice (r t) (hr t)) fullShare (Z t) : sProp 𝕄)
      ⊢ owns (c : Thread nD τ) b fullShare (Rect.glue r hcov Z) := by
  have hg (t : T) : (fun j => Rect.glue r hcov Z ((r t).emb j)) = Z t := funext fun y => Rect.glue_emb r hcov hd Z t y
  refine BIBase.Entails.trans (Entails.of_eq ?_) (owns_of_rects (c : Thread nD τ) b fullShare r hr hd hcov (Rect.glue r hcov Z))
  exact bigSep_congr fun t _ => by rw [hg]
theorem any_join {s : Shape} {e : EltTy} (b : Memref sig .tc .vmem s e) (c : Dev nD) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => any (b.slice (r t) (hr t)) c : sProp 𝕄) ⊢ any b c := by
  unfold any
  refine (BI.bigSep_exists_pi Finset.univ (fun t X => owns (c : Thread nD τ) (b.slice (r t) (hr t)) fullShare X)).trans ?_
  iintro ⟨%Z, H⟩
  iexists Rect.glue r hcov Z
  iapply (owns_glue b c r hr hd hcov Z)
  iexact H
theorem any_split {s : Shape} {e : EltTy} (b : Memref sig .tc .vmem s e) (c : Dev nD) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    any b c ⊢ (bigSep Finset.univ fun t => any (b.slice (r t) (hr t)) c : sProp 𝕄) := by
  have h (X : s.Idx → Elt F e) : (owns (c : Thread nD τ) b fullShare X : sProp 𝕄) ⊢ (bigSep Finset.univ fun t => any (b.slice (r t) (hr t)) c) :=
    (owns_rects (c : Thread nD τ) b fullShare r hr hd hcov X).trans (bigSep_mono fun t _ => any_intro _ c _)
  unfold any at h ⊢
  iintro ⟨%X, H⟩
  iapply (h X); iexact H

/-! ## Halves of a 2×128×256 buffer -/

theorem any_half (b : Memref sig .tc .vmem S2x128x256 .bf16) (h : Fin 2) (c : Dev nD) :
    (any (halfM b h) c : sProp 𝕄) = any (b.slice (halfR h) (fun _ => rfl)) c := by
  have hL : (any (halfM b h) c : sProp 𝕄) ⊢ any (b.slice (halfR h) (fun _ => rfl)) c := by
    unfold any
    iintro ⟨%X, H⟩
    iexists up X
    rw [← owns_half]; iexact H
  have hR : (any (b.slice (halfR h) (fun _ => rfl)) c : sProp 𝕄) ⊢ any (halfM b h) c := by
    unfold any
    iintro ⟨%X, H⟩
    iexists (shapeCast S128x256 X shapeCasts_S1x128x256_S128x256)
    rw [owns_half, up_shapeCast]; iexact H
  exact BI.equiv_iff.mp ⟨hL, hR⟩

theorem halves (b : Memref sig .tc .vmem S2x128x256 .bf16) (c : Dev nD) :
    (any b c : sProp 𝕄) = bigSep Finset.univ fun h : Fin 2 => any (halfM b h) c := by
  have e : (bigSep Finset.univ fun h : Fin 2 => any (halfM b h) c : sProp 𝕄) = bigSep Finset.univ fun h : Fin 2 => any (b.slice (halfR h) (fun _ => rfl)) c :=
    bigSep_congr fun h _ => any_half b h c
  rw [e]
  exact BI.equiv_iff.mp ⟨any_split b c halfR (fun _ _ => rfl) halfR_disjoint halfR_cover, any_join b c halfR (fun _ _ => rfl) halfR_disjoint halfR_cover⟩

/-! ## The landing buffers -/

theorem room_eq (i : Slot) (p : Dev nD) : (room i p : sProp 𝕄) = any (dstM i) p := rfl

/-- The six landing buffers of device `c`, whole. -/
def lands (c : Dev nD) : sProp 𝕄 := bigSep Finset.univ fun x : Fin 2 × Fin 3 => any (landM x.1 x.2) c
/-- Their halves are the rooms of the twelve transfers to `c`. -/
theorem lands_eq (c : Dev nD) : (lands c : sProp 𝕄) = bigSep Finset.univ fun i : Slot => room i c := by
  have e : (bigSep Finset.univ fun i : Slot => room i c : sProp 𝕄)
      = bigSep Finset.univ fun h : Fin 2 => bigSep Finset.univ fun x : Fin 2 × Fin 3 => any (halfM (landM x.1 x.2) h) c :=
    bigSep_univ_prod (fun i : Slot => room i c)
  rw [e, bigSep_univ_comm]
  exact bigSep_congr fun x _ => halves (landM x.1 x.2) c

/-- What device `c` hands to its peers at the barrier is all of its landing buffers. -/
theorem lands_give (c : Dev nD) : (lands c : sProp 𝕄) = iprop(barGive 0 c ∗ barGive 1 c ∗ barGive 2 c) := by
  rw [lands_eq, ← bigSep_three (fun d => barGive d c)]
  unfold barGive
  rw [← bigSep_univ_prod (fun x : Fin 3 × (Fin 2 × Fin 2) => (room (F := F) (x.2.1, x.2.2, back x.1) c : sProp 𝕄)),
    bigSep_univ_equiv (⟨fun x => (x.2.1, x.2.2, back x.1), fun i => (back i.2.2, i.1, i.2.1), fun x => by simp only [back_back], fun i => by simp only [back_back]⟩ :
      Fin 3 × (Fin 2 × Fin 2) ≃ Slot) (fun i => (room (F := F) i c : sProp 𝕄))]
  rfl

/-- Turning every slot round is a permutation of the slots. -/
def revE : Slot ≃ Slot := ⟨rev, rev, rev_rev, rev_rev⟩

/-- After the last wait the landing buffers are whole again, and the receive cells are closed. -/
theorem got_all (c : Dev nD) :
    (all fun i => got m i c) ⊢ (iprop(lands c ∗ bigSep Finset.univ fun i : Slot => semVal (recvCell i c) 0) : sProp 𝕄) := by
  rw [← bigSep_slots, lands_eq, bigSep_univ_equiv revE (fun i : Slot => (room i c : sProp 𝕄)), ← bigSep_sep']
  refine bigSep_mono fun i _ => ?_
  unfold got recvPay
  exact sep_mono_left (any_intro (dstM (rev i)) c _)

/-! ## The partial product and the sending buffer -/

theorem join_part (c : Dev nD) :
    (iprop((ownPart m c 0 ∗ ownPart m c 1) ∗ tri (fun i => sendPay m i c) 0 0 ∗ tri (fun i => sendPay m i c) 1 0) : sProp 𝕄) ⊢ any pM c := by
  refine BIBase.Entails.trans ?_ (any_join pM c (fun x : Fin 4 × Fin 2 => blkR x.1 x.2) (fun _ _ => rfl) blkR_disjoint blkR_cover)
  have h (r : Fin 4) (k : Fin 2) : (owns (c : Thread nD τ) (partM r k) fullShare (blkOf (partAt m c) r k) : sProp 𝕄)
      ⊢ any (pM.slice (blkR r k) (fun _ => rfl)) c := any_intro _ c _
  rw [bigSep_blocks c]
  simp only [tri, sendPay_rs]
  unfold ownPart
  iintro ⟨⟨H0, H1⟩, ⟨A0, B0, C0⟩, A1, B1, C1⟩
  isplitl [H0 H1]
  · isplitl [H0]
    · iapply (h c 0); iexact H0
    · iapply (h c 1); iexact H1
  isplitl [A0 A1]
  · isplitl [A0]
    · iapply (h (peer 0 c) 0); iexact A0
    · iapply (h (peer 0 c) 1); iexact A1
  isplitl [B0 B1]
  · isplitl [B0]
    · iapply (h (peer 1 c) 0); iexact B0
    · iapply (h (peer 1 c) 1); iexact B1
  isplitl [C0]
  · iapply (h (peer 2 c) 0); iexact C0
  · iapply (h (peer 2 c) 1); iexact C1

theorem ag_rooms (c : Dev nD) : (any gM c : sProp 𝕄) = iprop(agRoom c 0 ∗ agRoom c 1) := by rw [halves, bigSep_two]; rfl

/-- After the last wait the two sending buffers are whole again, and the send cells are closed. -/
theorem left_all (c : Dev nD) :
    (iprop((ownPart m c 0 ∗ ownPart m c 1) ∗ all fun i => left m i c) : sProp 𝕄)
      ⊢ iprop(any pM c ∗ any gM c ∗ bigSep Finset.univ fun i : Slot => semVal (sendCell i c) 0) := by
  rw [← bigSep_slots]
  unfold left
  rw [bigSep_sep', bigSep_slots, ag_rooms]
  iintro ⟨HP, ⟨S00, S10, S01, S11⟩, Hz⟩
  isplitl [HP S00 S10]
  · iapply (join_part m c)
    isplitl [HP]; · iexact HP
    isplitl [S00]; · iexact S00
    iexact S10
  isplitl [S01 S11]
  · isplitl [S01]
    · iapply (unshare_ag m c 0); iexact S01
    · iapply (unshare_ag m c 1); iexact S11
  iexact Hz

/-! ## The result -/

/-- Device `c`'s result: the eight blocks put together. -/
def outAt (c : Dev nD) : S512x512.Idx → Elt F .f32 :=
  Rect.glue (fun x : Fin 4 × Fin 2 => blkR x.1 x.2) blkR_cover (fun x => outBlk m c x.1 x.2)
/-- A block of it. -/
theorem blk_outAt (c : Dev nD) (r : Fin 4) (h : Fin 2) (j : S128x256.Idx) : outAt m c ((blkR r h).emb j) = outBlk m c r h j :=
  Rect.glue_emb (fun x : Fin 4 × Fin 2 => blkR x.1 x.2) blkR_cover blkR_disjoint (fun x => outBlk m c x.1 x.2) (r, h) j

theorem out_rooms (c : Dev nD) : any oM c ⊢ (rows c (outRoom c) : sProp 𝕄) := by
  refine (any_split oM c (fun x : Fin 4 × Fin 2 => blkR x.1 x.2) (fun _ _ => rfl) blkR_disjoint blkR_cover).trans ?_
  rw [bigSep_blocks c]; exact .rfl
theorem out_done (c : Dev nD) : rows c (outDone m c) ⊢ (owns (c : Thread nD τ) oM fullShare (outAt m c) : sProp 𝕄) := by
  refine BIBase.Entails.trans ?_ (owns_glue oM c (fun x : Fin 4 × Fin 2 => blkR x.1 x.2) (fun _ _ => rfl) blkR_disjoint blkR_cover (fun x => outBlk m c x.1 x.2))
  rw [bigSep_blocks c]; exact .rfl

end Cert.GemmSilu

end
-- ==== Proof.Launch.lean ====
/-
# The launch

What each device starts from, how the cells and their tokens are dealt out, and the run of the whole mesh.
-/
module

public import proofs.«01_k».proof.Proof.Buffers
public import Idealize.ShloMosaic.Lib.Pipeline.BigSepL
public import Idealize.ShloMosaic.Lib.Pipeline.CollectiveSegs

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## What a device starts from and ends with -/

/-- What device `c` holds beside its buffers: the tokens of its three signals and twelve transfers, and its positions
    at the barrier and at its twelve receive counters. -/
def share (c : Dev nD) : sProp 𝕄 :=
  iprop((bigSep Finset.univ fun d : Fin 3 => dutyTok ER (barCell (peer d c)) 0 d) ∗ (bigSep Finset.univ fun i : Slot => toks i c)
    ∗ atPos ER (barCell c) 0 ∅ 0 ∗ bigSep Finset.univ fun i : Slot => atPos ER (recvCell i c) 0 ∅ 0)
/-- The records of all cells under the names `K`. -/
def records (K : Dev nD × CIx → ℕ) : sProp 𝕄 := bigSep Finset.univ fun p : Dev nD × CIx => iprop(cellInv ER (sched m) (K p) (kcell p) ∗ reached ER (kcell p) 0)
instance records_persistent (K : Dev nD × CIx → ℕ) : BI.Persistent (records m K) := by unfold records; infer_instance
/-- A device's share with the records under some names. -/
def dealt (c : Dev nD) : sProp 𝕄 := iprop((∃ K, records m K) ∗ share c)
/-- What the peers owe device `c`: three units at its barrier, a half at each receive counter. -/
def credits (c : Dev nD) : sProp 𝕄 := iprop(cred (tallyAt (barCell c) () 3) ∗ bigSep Finset.univ fun i : Slot => cred (tallyAt (recvCell i c) () N))
def start (c : Dev nD) : sProp 𝕄 := iprop(dealt m c ∗ credits c ∗ levAts L lv)

/-- The kernel's scratch buffers on device `c`. -/
def scratch (c : Dev nD) : sProp 𝕄 := iprop(any pM c ∗ any gM c ∗ lands c)
/-- The kernel's own counters on device `c`, all at zero. -/
def quiet (c : Dev nD) : sProp 𝕄 := iprop((bigSep Finset.univ fun i : Slot => semVal (sendCell i c) 0) ∗ bigSep Finset.univ fun i : Slot => semVal (recvCell i c) 0)

theorem whole_any (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) :=
  congrArg _ (funext fun X => (owns_whole (c : Thread nD τ) b fullShare X).symm)

/-- The launch's scratch buffers are the kernel's, each under the name the proof gives it. -/
theorem scratch_eq (c : Dev nD) : (Pipeline.scopedRest cfg0.spec c : sProp 𝕄) = scratch c := by
  have e : (lands c : sProp 𝕄) = iprop(any (landM 0 0) c ∗ any (landM 0 1) c ∗ any (landM 0 2) c ∗ any (landM 1 0) c ∗ any (landM 1 1) c ∗ any (landM 1 2) c) :=
    bigSep_univ_eq_bigSepL [(0, 0), (0, 1), (0, 2), (1, 0), (1, 1), (1, 2)] (by decide) (by decide) _
  unfold scratch
  rw [scopedRest0_eq, e]
  simp only [whole_any]
  change iprop(any pM c ∗ any (landM 0 1) c ∗ any (landM 0 0) c ∗ any (landM 0 2) c ∗ any gM c ∗ any (landM 1 1) c ∗ any (landM 1 0) c ∗ any (landM 1 2) c) = _
  generalize (any pM c : sProp 𝕄) = P0
  generalize (any gM c : sProp 𝕄) = P1
  generalize (any (landM 0 0) c : sProp 𝕄) = P2
  generalize (any (landM 0 1) c : sProp 𝕄) = P3
  generalize (any (landM 0 2) c : sProp 𝕄) = P4
  generalize (any (landM 1 0) c : sProp 𝕄) = P5
  generalize (any (landM 1 1) c : sProp 𝕄) = P6
  generalize (any (landM 1 2) c : sProp 𝕄) = P7
  have hL : (iprop(P0 ∗ P3 ∗ P2 ∗ P4 ∗ P1 ∗ P6 ∗ P5 ∗ P7) : sProp 𝕄) ⊢ iprop(P0 ∗ P1 ∗ P2 ∗ P3 ∗ P4 ∗ P5 ∗ P6 ∗ P7) := by
    iintro ⟨H0, H3, H2, H4, H1, H6, H5, H7⟩; iframe
  have hR : (iprop(P0 ∗ P1 ∗ P2 ∗ P3 ∗ P4 ∗ P5 ∗ P6 ∗ P7) : sProp 𝕄) ⊢ iprop(P0 ∗ P3 ∗ P2 ∗ P4 ∗ P1 ∗ P6 ∗ P5 ∗ P7) := by
    iintro ⟨H0, H1, H2, H3, H4, H5, H6, H7⟩; iframe
  exact BI.equiv_iff.mp ⟨hL, hR⟩

/-- The launch's data of device `c`: the two blocks stay as read, the result's staging buffer ends at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aAt m c
    | ⟨1, _⟩ => bAt m c
    | ⟨2, _⟩ => outAt m c
  Φ t := match t with
    | ⟨0, _⟩ => iprop(start m c ∗ scratch c)
    | ⟨_ + 1, _⟩ => iprop(scratch c ∗ quiet c ∗ semVal (barCell c) 0)
  q _ := fullShare
  owed t := match t with
    | ⟨0, _⟩ => O₀ c
    | ⟨_ + 1, _⟩ => 0

/-! ## The body under the launch -/

/-- The body's entry and exit as the launch states them. -/
def entry (c : Dev nD) : sProp 𝕄 :=
  iprop((start m c ∗ scratch c) ∗ ows c (O₀ c) ∗ owns (c : Thread nD τ) aM fullShare (aAt m c) ∗ owns (c : Thread nD τ) bM fullShare (bAt m c) ∗ any oM c)
def finish (c : Dev nD) : sProp 𝕄 :=
  iprop((scratch c ∗ quiet c ∗ semVal (barCell c) 0) ∗ ows c 0 ∗ owns (c : Thread nD τ) aM fullShare (aAt m c) ∗ owns (c : Thread nD τ) bM fullShare (bAt m c)
    ∗ owns (c : Thread nD τ) oM fullShare (outAt m c))

/-- What the launch gives is what the body takes. -/
theorem entry_body (c : Dev nD) : entry m c ⊢ ∃ K, world m K ∗ bodyIn m c := by
  unfold entry start dealt credits share scratch bodyIn world records
  rw [lands_give, ag_rooms, bigSep_three, ← bigSep_slots, ← bigSep_slots]
  have hd : (bigSep Finset.univ fun i : Slot => due (F := F) i c : sProp 𝕄)
      = iprop((bigSep Finset.univ fun i : Slot => atPos ER (recvCell i c) 0 ∅ 0) ∗ bigSep Finset.univ fun i : Slot => cred (tallyAt (recvCell i c) () N)) := by
    unfold due; exact bigSep_sep' _ _ _
  rw [hd]
  iintro ⟨⟨⟨⟨⟨%K, HK⟩, Ht, Htk, Hpb, Hpr⟩, ⟨Hcb, Hcr⟩, Hl⟩, HP, HG, HL⟩, HO, HA, HB, Ho⟩
  ihave HX := (out_rooms c) $$ Ho
  iexists K
  isplitl [HK Hl]; · isplitl [HK] <;> iassumption
  isplitl [HO]; · iexact HO
  isplitl [Ht]; · iexact Ht
  isplitl [HL]; · iexact HL
  isplitl [HA]; · iexact HA
  isplitl [HB]; · iexact HB
  isplitl [HP]; · unfold any; iexact HP
  isplitl [Hcb]; · iexact Hcb
  isplitl [Hpb]; · iexact Hpb
  isplitl [Htk Hpr Hcr]
  · isplitl [Htk]; · iexact Htk
    isplitl [Hpr] <;> iassumption
  isplitl [HX]; · iexact HX
  iexact HG

/-- What the body leaves is what the launch takes back. -/
theorem body_finish (c : Dev nD) : bodyOut m c ⊢ finish m c := by
  unfold bodyOut finish scratch quiet
  iintro ⟨HO, HA, HB, Hz, HP, ⟨Hl, Hg⟩, Hx⟩
  ihave H1 := (left_all m c) $$ [HP Hl]
  · isplitl [HP] <;> iassumption
  icases H1 with ⟨HP, HG, Hs⟩
  ihave H2 := (got_all m c) $$ Hg
  icases H2 with ⟨HL, Hr⟩
  ihave H3 := (out_done m c) $$ Hx
  isplitl [HP HG HL Hs Hr Hz]
  · isplitl [HP HG HL]
    · isplitl [HP]; · iexact HP
      isplitl [HG] <;> iassumption
    isplitl [Hs Hr]
    · isplitl [Hs] <;> iassumption
    iexact Hz
  isplitl [HO]; · iexact HO
  isplitl [HA]; · iexact HA
  isplitl [HB] <;> iassumption

theorem run_entry (c : Dev nD) (Kt : PUnit → sProp 𝕄) :
    iprop(entry m c ∗ (finish m c -∗ Kt ⟨⟩)) ⊢ Runs c (atBufs (cc0_body (F := F))) Kt := by
  iintro ⟨HE, Hk⟩
  ihave H := (entry_body m c) $$ HE
  icases H with ⟨%K, HW, HB⟩
  iapply (run_body m K c Kt)
  isplitl [HW]; · iexact HW
  isplitl [HB]; · iexact HB
  iintro H
  iapply Hk
  iapply (body_finish m c); iexact H

theorem owes_ows (c : Dev nD) : ((dats m ρ 0 c).owesAt () t0_0.castSucc : sProp 𝕄) ⊢ ows c (O₀ c) := by
  unfold Dat.owesAt Pipeline.owesWithin ows
  iintro ⟨%W, %hW, H⟩
  iexists W; iexact H
theorem ows_owes (c : Dev nD) : (ows c 0 : sProp 𝕄) ⊢ (dats m ρ 0 c).owesAt () t0_0.succ := by
  unfold Dat.owesAt Pipeline.owesWithin ows
  iintro ⟨%W, H⟩
  iexists W
  isplitr; · ipureintro; exact fun _ _ => Or.inl trivial
  iexact H

theorem before_a (c : Dev nD) (d) : (dats m ρ 0 c).before (0 : Fin 3) t0_0 d = aAt m c := by
  unfold Dat.before; rw [if_pos (fetch0_0 _)]; rfl
theorem before_b (c : Dev nD) (d) : (dats m ρ 0 c).before (1 : Fin 3) t0_0 d = bAt m c := by
  unfold Dat.before; rw [if_pos (fetch0_1 _)]; rfl

set_option maxRecDepth 8000 in
/-- The body's obligation under the launch, on device `c`. -/
theorem body_obligation (c : Dev nD) : BodyObligation (dats (F := F) m ρ 0 c) (defs₀ (F := F)) 𝒱₀ () Set.univ := fun t => by
  rw [fin_N0 t, bigSep_W0, bigSep_W0]
  change iprop((start m c ∗ scratch c) ∗ (dats m ρ 0 c).owesAt () t0_0.castSucc
      ∗ (∃ d, owns (c : Thread nD τ) aM fullShare ((dats m ρ 0 c).before (0 : Fin 3) t0_0 d))
      ∗ (∃ d, owns (c : Thread nD τ) bM fullShare ((dats m ρ 0 c).before (1 : Fin 3) t0_0 d))
      ∗ (∃ d, owns (c : Thread nD τ) oM fullShare ((dats m ρ 0 c).before (2 : Fin 3) t0_0 d)))
    ⊢ Runs c (atBufs (cc0_body (F := F))) fun _ =>
      iprop((scratch c ∗ quiet c ∗ semVal (barCell c) 0) ∗ (dats m ρ 0 c).owesAt () t0_0.succ
        ∗ owns (c : Thread nD τ) aM fullShare (aAt m c) ∗ owns (c : Thread nD τ) bM fullShare (bAt m c) ∗ owns (c : Thread nD τ) oM fullShare (outAt m c))
  simp only [before_a, before_b]
  iintro ⟨HS, HO, ⟨%d0, HA⟩, ⟨%d1, HB⟩, ⟨%d2, HX⟩⟩
  iapply (run_entry m c)
  isplitl
  · unfold entry any
    isplitl [HS]; · iexact HS
    isplitl [HO]; · iapply (owes_ows m ρ c); iexact HO
    isplitl [HA]; · iexact HA
    isplitl [HB]; · iexact HB
    iexists _; iexact HX
  unfold finish
  iintro ⟨HS, HO, HR⟩
  isplitl [HS]; · iexact HS
  isplitl [HO]; · iapply (ows_owes m ρ c); iexact HO
  iexact HR

/-! ## Dealing out the cells -/

theorem own_sems : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective kcell := by
  rintro ⟨c, k⟩ ⟨c', k'⟩ h
  have h1 : c = c' := congrArg (fun g : GSem nD τ sig => g.1.1) h
  exact Prod.ext h1 (csem_injective (congrArg Prod.snd h))
def allCells : Finset (GSem nD τ sig) := Finset.univ.map ⟨kcell, kcell_injective⟩

/-- The duties of a device's own cells: three at its barrier, one at each of the others. -/
abbrev TIx : Type := Fin 3 ⊕ (Slot ⊕ Slot)
instance : DecidableEq TIx := instDecidableEqSum
instance : DecidableEq (Dev nD × TIx) := instDecidableEqProd
def tokOf (p : Dev nD × TIx) : GSem nD τ sig × ℕ × Fin 3 :=
  Sum.elim (fun d => (barCell p.1, 0, d)) (fun k => (kcell (p.1, .inr k), 0, 0)) p.2
theorem tokOf_injective : Function.Injective tokOf := by
  rintro ⟨c, k⟩ ⟨c', k'⟩ h
  have hc : c = c' := by
    have := congrArg (fun x : GSem nD τ sig × ℕ × Fin 3 => x.1.1.1) h
    rcases k with d | k <;> rcases k' with d' | k' <;> exact this
  subst hc
  rcases k with d | k <;> rcases k' with d' | k'
  · have : d = d' := congrArg (fun x : GSem nD τ sig × ℕ × Fin 3 => x.2.2) h
    rw [this]
  · have : (Sum.inl () : CIx) = .inr k' := csem_injective (congrArg (fun x : GSem nD τ sig × ℕ × Fin 3 => x.1.2) h)
    cases this
  · have : (Sum.inr k : CIx) = .inl () := csem_injective (congrArg (fun x : GSem nD τ sig × ℕ × Fin 3 => x.1.2) h)
    cases this
  · have : (Sum.inr k : CIx) = .inr k' := csem_injective (congrArg (fun x : GSem nD τ sig × ℕ × Fin 3 => x.1.2) h)
    rw [Sum.inr.inj this]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of the duties of device `c`'s own cells. -/
def minted (c : Dev nD) : sProp 𝕄 :=
  iprop((bigSep Finset.univ fun d : Fin 3 => dutyTok ER (barCell c) 0 d) ∗ (bigSep Finset.univ fun i : Slot => dutyTok ER (sendCell i c) 0 0)
    ∗ bigSep Finset.univ fun i : Slot => dutyTok ER (recvCell i c) 0 0)
/-- The positions and marks of device `c`'s own cells. -/
def marks (c : Dev nD) : sProp 𝕄 := bigSep Finset.univ fun k : CIx => iprop(atPos ER (kcell (c, k)) 0 ∅ 0 ∗ reached ER (kcell (c, k)) 0)
def funded (c : Dev nD) : sProp 𝕄 := iprop((bigSep Finset.univ fun k : CIx => roundState ER (sched m) (kcell (c, k)) 0) ∗ marks c ∗ minted c)

theorem fund_all : BI.own (ER (initOf allCells allToks)) ⊢ (|==> bigSep Finset.univ (funded m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold funded marks; simp only [bigSep_sep']
  isplitl [Hst']; · iexact Hst'
  isplitl [Hat' Hr']
  · isplitl [Hat'] <;> iassumption
  iexact Htok'

theorem own_eq (c : Dev nD) : (Pipeline.ownSems0 (Ix := Unit) (Name := ℕ) (U := UU) (Lvl := ℕ) (Val := Elt F) (τ := τ) osem c : sProp 𝕄) = quiet c := by
  unfold Pipeline.ownSems0 quiet; rw [bigSep_univ_sum]; rfl
theorem unscoped_eq (c : Dev nD) : (unscopedSems0 c : sProp 𝕄) = semVal (barCell c) 0 := by
  unfold unscopedSems0; rw [bigSep_eq_bigSepL_of_eq [SemLoc.reg barS] (by decide) (by decide)]; rfl
theorem all_sems (c : Dev nD) : (bigSep Finset.univ fun k : CIx => semVal (kcell (c, k)) 0 : sProp 𝕄) = iprop(semVal (barCell c) 0 ∗ quiet c) := by
  rw [bigSep_univ_sum, bigSep_univ_of_subsingleton (), bigSep_univ_sum]; rfl

theorem core_alloc (c : Dev nD) :
    iprop(Pipeline.ownSems0 (Ix := Unit) (Name := ℕ) (U := UU) (Lvl := ℕ) (Val := Elt F) (τ := τ) osem c ∗ unscopedSems0 c ∗ funded m c)
      ⊢ |={Set.univ}=> iprop((bigSep Finset.univ fun k : CIx => iprop(∃ κ : ℕ, cellInv ER (sched m) κ (kcell (c, k)))) ∗ marks c ∗ minted c) := by
  have h : iprop((bigSep Finset.univ fun k : CIx => semVal (kcell (c, k)) 0) ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [all_sems] at h
  unfold funded
  rw [own_eq, unscoped_eq]
  iintro ⟨Hos, Hus, Hst, Hat, Htok⟩
  imod h $$ [Hos Hus Hst] with Hinv
  · isplitr [Hst]
    · isplitl [Hus] <;> iassumption
    iexact Hst
  imodintro
  isplitl [Hinv]; · iexact Hinv
  isplitl [Hat]; · iexact Hat
  iexact Htok

/-- The tokens dealt around: each barrier and receive token goes to the device that pays its duty. -/
theorem toks_around :
    (bigSep Finset.univ fun c : Dev nD => (minted c : sProp 𝕄))
      = iprop((bigSep Finset.univ fun c : Dev nD => bigSep Finset.univ fun d : Fin 3 => dutyTok ER (barCell (peer d c)) 0 d)
        ∗ (bigSep Finset.univ fun c : Dev nD => bigSep Finset.univ fun i : Slot => dutyTok ER (sendCell i c) 0 0)
        ∗ bigSep Finset.univ fun c : Dev nD => bigSep Finset.univ fun i : Slot => dutyTok ER (recvCell (rev i) (tgt i c)) 0 0) := by
  have hB : (bigSep Finset.univ fun c : Dev nD => bigSep Finset.univ fun d : Fin 3 => dutyTok ER (barCell c) 0 d : sProp 𝕄)
      = bigSep Finset.univ fun c : Dev nD => bigSep Finset.univ fun d : Fin 3 => dutyTok ER (barCell (peer d c)) 0 d := by
    rw [bigSep_univ_comm, bigSep_univ_comm (fun (c : Dev nD) (d : Fin 3) => (dutyTok ER (barCell (peer d c)) 0 d : sProp 𝕄))]
    exact bigSep_congr fun d _ => bigSep_univ_equiv (along d) (fun c : Dev nD => (dutyTok ER (barCell c) 0 d : sProp 𝕄))
  have hR : (bigSep Finset.univ fun c : Dev nD => bigSep Finset.univ fun i : Slot => dutyTok ER (recvCell i c) 0 0 : sProp 𝕄)
      = bigSep Finset.univ fun c : Dev nD => bigSep Finset.univ fun i : Slot => dutyTok ER (recvCell (rev i) (tgt i c)) 0 0 := by
    rw [bigSep_univ_comm, bigSep_univ_comm (fun (c : Dev nD) (i : Slot) => (dutyTok ER (recvCell (rev i) (tgt i c)) 0 0 : sProp 𝕄)),
      bigSep_univ_equiv revE (fun i : Slot => (bigSep Finset.univ fun c : Dev nD => dutyTok ER (recvCell i c) 0 0 : sProp 𝕄))]
    exact bigSep_congr fun i _ => bigSep_univ_equiv (along i.2.2) (fun c : Dev nD => (dutyTok ER (recvCell (rev i) c) 0 0 : sProp 𝕄))
  unfold minted
  rw [bigSep_sep', bigSep_sep', hB, hR]

/-- The positions of the cells by kind. -/
theorem pos_split (c : Dev nD) : (bigSep Finset.univ fun k : CIx => atPos ER (kcell (c, k)) 0 ∅ 0 : sProp 𝕄)
    = iprop(atPos ER (barCell c) 0 ∅ 0 ∗ (bigSep Finset.univ fun i : Slot => atPos ER (sendCell i c) 0 ∅ 0) ∗ bigSep Finset.univ fun i : Slot => atPos ER (recvCell i c) 0 ∅ 0) := by
  rw [bigSep_univ_sum, bigSep_univ_of_subsingleton (), bigSep_univ_sum]; rfl

theorem share_intro :
    iprop((bigSep Finset.univ fun c : Dev nD => bigSep Finset.univ fun k : CIx => atPos ER (kcell (c, k)) 0 ∅ 0) ∗ bigSep Finset.univ fun c : Dev nD => minted c)
      ⊢ (bigSep Finset.univ fun c : Dev nD => share c : sProp 𝕄) := by
  simp only [pos_split]
  rw [toks_around]
  unfold share toks
  simp only [bigSep_sep']
  iintro ⟨⟨P0, P1, P2⟩, T0, T1, T2⟩
  isplitl [T0]; · iexact T0
  isplitl [T1 T2 P1]
  · isplitl [T1]; · iexact T1
    isplitl [T2] <;> iassumption
  isplitl [P0] <;> iassumption

theorem regroup :
    (bigSep Finset.univ fun c : Dev nD => iprop((bigSep Finset.univ fun k : CIx => iprop(∃ κ : ℕ, cellInv ER (sched m) κ (kcell (c, k)))) ∗ marks c ∗ minted c) : sProp 𝕄)
      ⊢ bigSep Finset.univ (dealt m) := by
  unfold marks
  simp only [bigSep_sep']
  rw [← bigSep_univ_prod (fun p : Dev nD × CIx => iprop(∃ κ : ℕ, cellInv ER (sched m) κ (kcell p))),
    ← bigSep_univ_prod (fun p : Dev nD × CIx => (reached ER (kcell p) 0 : sProp 𝕄))]
  iintro ⟨HI, ⟨Hat, HR⟩, Htok⟩
  ihave HK := (BI.bigSep_exists_pi Finset.univ (fun (p : Dev nD × CIx) (κ : ℕ) => (cellInv ER (sched m) κ (kcell p) : sProp 𝕄))) $$ HI
  icases HK with ⟨%K, HI⟩
  ihave HW := (show iprop((bigSep Finset.univ fun p : Dev nD × CIx => cellInv ER (sched m) (K p) (kcell p)) ∗ bigSep Finset.univ fun p : Dev nD × CIx => reached ER (kcell p) 0)
      ⊢ records m K from by unfold records; rw [bigSep_sep']) $$ [HI HR]
  · isplitl [HI] <;> iassumption
  ihave HS := (share_intro (F := F)) $$ [Hat Htok]
  · isplitl [Hat] <;> iassumption
  unfold dealt
  rw [bigSep_sep']
  isplitl [HW]
  · have hK : records m K ⊢ (iprop(∃ K, records m K) : sProp 𝕄) := by iintro H; iexists K; iexact H
    have h : records m K ⊢ (bigSep Finset.univ fun _ : Dev nD => iprop(∃ K, records m K) : sProp 𝕄) := by
      refine BIBase.Entails.trans (BI.bigSep_of_persistent Finset.univ (records m K)) (bigSep_mono fun c _ => hK)
    iapply h; iexact HW
  iexact HS

theorem glob : (bigSep Finset.univ fun c => iprop(Pipeline.ownSems0 (Ix := Unit) (Name := ℕ) (U := UU) (Lvl := ℕ) (Val := Elt F) (τ := τ) osem c ∗ unscopedSems0 c ∗ funded m c) : sProp 𝕄)
    ⊢ |={Set.univ}=> bigSep Finset.univ (dealt m) :=
  ((bigSep_mono fun c _ => core_alloc m c).trans (bigSep_fupd _ _)).trans (BI.fupd_mono (regroup m))

/-! ## The credits -/

/-- The peers' owed transfers are credits at the receive counters they arrive on. -/
theorem creds_owe (c : Dev nD) (l : List Slot) :
    (Pipeline.launchCred (fun d => owe d l) c : sProp 𝕄) ⊢ bigSepL l fun i => cred (tallyAt (recvCell (rev i) c) () N) := by
  induction l with
  | nil =>
    rw [show (fun d => owe d []) = (fun _ : Dev nD => (0 : CellTallies nD τ sig Unit)) from rfl, Pipeline.launchCred_zero]; exact .rfl
  | cons i l ih =>
    rw [show (fun d => owe d (i :: l)) = (fun d => owe d l + tallyAt (((tgt i d).tc : Thread nD τ), SemLoc.dma (recvS (rev i))) () N) from rfl,
      Pipeline.launchCred_add, bigSepL_cons']
    have h := Pipeline.launchCred_tallyAt (Val := Elt F) (Name := ℕ) (U := UU) (Lvl := ℕ) (τ := τ) (SemLoc.dma (recvS (rev i))) (fun d => tgt i d) (fun d => peer (back i.2.2) d)
      (fun d => back_peer i.2.2 d) (fun d => peer_back i.2.2 d) () N c
    iintro ⟨H, H1⟩
    isplitl [H1]
    · iapply h; iexact H1
    · iapply ih; iexact H
theorem creds_bar (d : Fin 3) (c : Dev nD) :
    (Pipeline.launchCred (fun p => tallyAt (barCell (peer d p)) () 1) c : sProp 𝕄) ⊢ cred (tallyAt (barCell c) () 1) :=
  Pipeline.launchCred_tallyAt (SemLoc.reg barS) (fun p => peer d p) (fun p => peer (back d) p) (fun p => back_peer d p) (fun p => peer_back d p) () 1 c
theorem creds (c : Dev nD) : (Pipeline.launchCred O₀ c : sProp 𝕄) ⊢ credits c := by
  have hS : (bigSepL allSlots fun i => cred (tallyAt (recvCell (rev i) c) () N) : sProp 𝕄) = bigSep Finset.univ fun i : Slot => cred (tallyAt (recvCell i c) () N) := by
    rw [bigSep_univ_equiv revE (fun i : Slot => (cred (tallyAt (recvCell i c) () N) : sProp 𝕄)), bigSep_univ_eq_bigSepL allSlots (Finset.ext fun i => by simp only [Finset.mem_univ, List.mem_toFinset, allSlots_mem]) allSlots_nodup]; rfl
  have h1 : (cred (tallyAt (barCell c) () 3) : sProp 𝕄) = iprop(cred (tallyAt (barCell c) () 1) ∗ cred (tallyAt (barCell c) () 1) ∗ cred (tallyAt (barCell c) () 1)) := by
    have e (a b : CellTallies nD τ sig Unit) : (cred (a + b) : sProp 𝕄) = iprop(cred a ∗ cred b) := BI.Entails.antisymm (cred_add a b).1 (cred_add a b).2
    rw [show (tallyAt (barCell c) () 3 : CellTallies nD τ sig Unit) = tallyAt (barCell c) () 1 + (tallyAt (barCell c) () 1 + tallyAt (barCell c) () 1) by rw [tallyAt_add, tallyAt_add], e, e]
  unfold credits
  rw [← hS, h1,
    show (O₀ : Dev nD → CellTallies nD τ sig Unit) = (fun d => (fun d => (fun d => (fun d => owe d allSlots) d + tallyAt (barCell (peer 2 d)) () 1) d + tallyAt (barCell (peer 1 d)) () 1) d
      + tallyAt (barCell (peer 0 d)) () 1) from rfl, Pipeline.launchCred_add, Pipeline.launchCred_add, Pipeline.launchCred_add]
  iintro ⟨⟨⟨H, H2⟩, H1⟩, H0⟩
  isplitl [H0 H1 H2]
  · isplitl [H0]; · iapply (creds_bar 0 c); iexact H0
    isplitl [H1]; · iapply (creds_bar 1 c); iexact H1
    iapply (creds_bar 2 c); iexact H2
  iapply (creds_owe c allSlots); iexact H

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs] <;> iassumption

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ quiet c ∗ semVal (barCell c) 0) from rfl, scratch_eq, own_eq, unscoped_eq]
  iintro ⟨Hr, Hq, Hz⟩
  isplitl [Hz]; · iexact Hz
  isplitl [Hq] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every array ends as the launch's data say, every counter at zero. -/
def Ends : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On four devices, for any float values and from any memory with zero counters: every fair execution of the
    kernel terminates without a fault, the arrays end as `Ends` says, and every counter is at zero again. -/
theorem run_mesh : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := funded m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GemmSilu

end
-- ==== Proof.Value.lean ====
/-
# The values

Over the extended reals every device's result is `silu(A·B)` of the whole operands, as the reference computes it.
-/
module

public import proofs.«01_k».proof.Proof.Buffers
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (K : Dev nD × CIx → ℕ)

open Idealize.ShloMosaic.ValueIdx
open scoped BigOperators

/-! ## The kernel's side -/

/-- A memory over the extended reals: plain numbers, whatever the formats. -/
abbrev Mem := (ℓ : Loc nD τ sig) → Buf (Elt Ideal) ℓ

/-- What is staged of the left operand is all that the device holds of it. -/
theorem aAt_eq (m : (ℓ : Loc nD τ sig) → Buf (Elt F) ℓ) (c : Dev nD) : aAt m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- What is staged of the right operand is all that the device holds of it. -/
theorem bAt_eq (m : (ℓ : Loc nD τ sig) → Buf (Elt F) ℓ) (c : Dev nD) : bAt m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- Device `c`'s columns of the left operand, as numbers. -/
def colsOf (m : Mem) (c : Dev nD) : S512x256.Idx → EReal := m ((c : Thread nD τ).loc main_arg0)
/-- Device `c`'s rows of the right operand, as numbers. -/
def rowsOf (m : Mem) (c : Dev nD) : S256x512.Idx → EReal := m ((c : Thread nD τ).loc main_arg1)

/-- The activation on one number, as both programs compute it. -/
def silu (s : EReal) : EReal := Ideal.div s (Ideal.ofBits .f32 0x3F800000#32 + Ideal.exp (-s))

/-- A device's partial product at a row and a column: the sum over its 256 columns of the left operand. -/
theorem partAt_apply (m : Mem) (c : Dev nD) (i j : Fin 512) :
    (partAt (F := Ideal) m c : S512x512.Idx → EReal) (ix2 i j)
      = ∑ k : Fin 256, colsOf m c (ix2 i k) * rowsOf m c (ix2 k j) := by
  unfold partAt k0_pay1
  rw [aAt_eq, bAt_eq]
  rw [shapeCast_self, shapeCast_self, shapeCast_self]
  have hm := Ideal.matmul_plain_apply (M := 512) (K := 256) (N := 512) (φ₁ := .bf16) (φ₂ := .bf16) none (colsOf m c) (rowsOf m c)
    (constant S512x512 .f32 0x00000000#32) i j
  have h0 : (constant S512x512 .f32 0x00000000#32 : FVec Ideal S512x512 .f32) (ix2 i j) = (0 : EReal) := Ideal.ofBits_zero_f32
  exact hm.trans ((congrArg (· + _) h0).trans (zero_add _))

/-- A device and the three it hears from are all four devices. -/
theorem sum_peers (f : Dev nD → EReal) (c : Dev nD) : f c + f (peer 0 c) + f (peer 1 c) + f (peer 2 c) = ∑ d : Dev nD, f d := by
  have hs : (Finset.univ : Finset (Dev nD)) = {c, peer 0 c, peer 1 c, peer 2 c} := by revert c; decide
  have h1 : c ∉ ({peer 0 c, peer 1 c, peer 2 c} : Finset (Dev nD)) := by revert c; decide
  have h2 : peer 0 c ∉ ({peer 1 c, peer 2 c} : Finset (Dev nD)) := by revert c; decide
  have h3 : peer 1 c ∉ ({peer 2 c} : Finset (Dev nD)) := by revert c; decide
  rw [hs, Finset.sum_insert h1, Finset.sum_insert h2, Finset.sum_insert h3, Finset.sum_singleton, add_assoc, add_assoc]

/-- The activation of a device's rows: `silu` of the sum of the four partial products there. -/
theorem actAt_apply (m : Mem) (c : Dev nD) (h : Fin 2) (j : S128x256.Idx) :
    (actAt (F := Ideal) m c h : S128x256.Idx → EReal) j
      = silu (∑ d : Dev nD, (partAt (F := Ideal) m d : S512x512.Idx → EReal) ((blkR c h).emb j)) := by
  rw [← sum_peers _ c]
  unfold actAt k0_pay7
  rw [shapeCast_up, shapeCast_up, shapeCast_up]
  have key : ∀ s : EReal, Ideal.div s (Ideal.ofBits .f32 0x3F800000#32 + Ideal.exp (Ideal.ofBits .f32 0x00000000#32 - s)) = silu s := by
    intro s
    rw [Ideal.ofBits_zero_f32, sub_eq_add_neg, zero_add]; rfl
  exact key _

/-- What is gathered of another device's rows is, over the reals, the activation it computed: the casts are the identity. -/
theorem outBlk_eq (m : Mem) (c : Dev nD) (r : Fin 4) (h : Fin 2) :
    (outBlk (F := Ideal) m c r h : S128x256.Idx → EReal) = actAt (F := Ideal) m r h := by
  unfold outBlk
  split
  · next e => rw [e]
  · unfold agAt k0_pay9 k0_pay8
    dsimp only
    rw [shapeCast_shapeCast]
    rfl

/-- Every entry of the 512×512 array lies in one of the eight blocks. -/
theorem in_block (x : S512x512.Idx) : ∃ (r : Fin 4) (h : Fin 2) (j : S128x256.Idx), (blkR r h).emb j = x := by
  have hx : x ∈ (Finset.univ : Finset (Fin 4 × Fin 2)).biUnion (fun t => (blkR t.1 t.2).set) := by
    rw [blkR_cover]; exact Finset.mem_univ x
  obtain ⟨t, -, ht⟩ := Finset.mem_biUnion.mp hx
  rw [← Rect.map_emb_univ] at ht
  obtain ⟨j, -, hj⟩ := Finset.mem_map.mp ht
  exact ⟨t.1, t.2, j, hj⟩

/-- **The kernel's result at an entry**, the same on every device: `silu` of the sum of the four partial products. -/
theorem outAt_apply (m : Mem) (c : Dev nD) (x : S512x512.Idx) :
    (outAt (F := Ideal) m c : S512x512.Idx → EReal) x = silu (∑ d : Dev nD, (partAt (F := Ideal) m d : S512x512.Idx → EReal) x) := by
  obtain ⟨r, h, j, rfl⟩ := in_block x
  rw [blk_outAt, ← actAt_apply]
  exact congrFun (outBlk_eq m c r h) j

/-! ## The reference's side -/

/-- The reference's result of two whole operands, as its run states it. -/
def refOut (A : FVec Ideal Cert.ReferenceIdeal.S512x1024 .bf16) (B : FVec Ideal Cert.ReferenceIdeal.S1024x512 .bf16) : FVec Ideal Cert.ReferenceIdeal.S512x512 .f32 :=
  let z := Host.dotGeneral Cert.ReferenceIdeal.dot_S512x1024_S1024x512_S512x512_1_0_0_1_n_n none (extf .f32 A Cert.ReferenceIdeal.Facts₀.bitsLt_bf16_f32) (extf .f32 B Cert.ReferenceIdeal.Facts₀.bitsLt_bf16_f32)
  Host.divf z (addf (broadcastInDim Cert.ReferenceIdeal.S512x512 ![] Cert.ReferenceIdeal.Facts₀.bcast_S_S512x512 (constant Cert.ReferenceIdeal.S_ .f32 0x3F800000#32)) (Host.exp (Host.negf z)))

/-- **The reference's result at a row and a column**: `silu` of the sum over all 1024 positions. -/
theorem refOut_apply (A : FVec Ideal Cert.ReferenceIdeal.S512x1024 .bf16) (B : FVec Ideal Cert.ReferenceIdeal.S1024x512 .bf16) (i j : Fin 512) :
    (refOut A B : Cert.ReferenceIdeal.S512x512.Idx → EReal) (ix2 i j)
      = silu (∑ k : Fin 1024, (A : Cert.ReferenceIdeal.S512x1024.Idx → EReal) (ix2 i k) * (B : Cert.ReferenceIdeal.S1024x512.Idx → EReal) (ix2 k j)) := by
  have hz := StackMember.dotGeneral_plain_apply (m := 512) (n := 512) (k := 1024) none
    (extf .f32 A Cert.ReferenceIdeal.Facts₀.bitsLt_bf16_f32) (extf .f32 B Cert.ReferenceIdeal.Facts₀.bitsLt_bf16_f32) i j
  exact congrArg silu hz

/-! ## The two together -/

/-- A sum over 1024 positions is the sum over four stretches of 256. -/
theorem sum_stretches (f : Fin 1024 → EReal) :
    ∑ k : Fin 1024, f k = ∑ d : Fin 4, ∑ k : Fin 256, f ⟨d.val * 256 + k.val, by have := d.isLt; have := k.isLt; omega⟩ := by
  rw [← Equiv.sum_comp (finProdFinEquiv (m := 4) (n := 256)) f, Fintype.sum_prod_type]
  refine Finset.sum_congr rfl fun d _ => Finset.sum_congr rfl fun k _ => congrArg f (Fin.ext ?_)
  show k.val + 256 * d.val = d.val * 256 + k.val
  omega

/-- **Kernel and reference agree** where each device holds its columns of the left operand and its rows of the right
    one: every entry of every device's result is the reference's. -/
theorem outAt_eq_refOut (m : Mem) (A : FVec Ideal Cert.ReferenceIdeal.S512x1024 .bf16) (B : FVec Ideal Cert.ReferenceIdeal.S1024x512 .bf16)
    (hA : ∀ c : Dev nD, m ((c : Thread nD τ).loc main_arg0) = Layout.block ⟨2, ![512, 256]⟩ ⟨2, ![512, 1024]⟩ 1 4 c A)
    (hB : ∀ c : Dev nD, m ((c : Thread nD τ).loc main_arg1) = Layout.block ⟨2, ![256, 512]⟩ ⟨2, ![1024, 512]⟩ 0 4 c B)
    (c : Dev nD) : (outAt (F := Ideal) m c : S512x512.Idx → EReal) = refOut A B := by
  funext x
  obtain ⟨i, j, rfl⟩ : ∃ i j : Fin 512, x = ix2 i j := ⟨x 0, x 1, eq_ix2 x⟩
  rw [outAt_apply]
  refine Eq.trans ?_ (refOut_apply A B i j).symm
  rw [sum_stretches]
  refine congrArg silu (Finset.sum_congr rfl fun d _ => (partAt_apply m d i j).trans (Finset.sum_congr rfl fun k _ => ?_))
  unfold colsOf rowsOf
  rw [hA d, hB d]
  refine congrArg₂ (· * ·) (congrArg A (funext fun a => Fin.ext ?_)) (congrArg B (funext fun a => Fin.ext ?_))
  · match a with
    | ⟨0, _⟩ => rfl
    | ⟨1, _⟩ => rfl
  · match a with
    | ⟨0, _⟩ => rfl
    | ⟨1, _⟩ => rfl

end Cert.GemmSilu

end
-- ==== Proof.Claims.lean ====
/-
# The claims

The run of the mesh read at its arrays, and the five claims.
-/
module

public import proofs.«01_k».proof.Defs
public import proofs.«01_k».proof.Proof.Gen.Kernel
public import proofs.«01_k».proof.Proof.Launch
public import proofs.«01_k».proof.Proof.Value
public import Idealize.ShloMosaic.Adequacy
public import Idealize.ShloMosaic.Init

@[expose] public section

noncomputable section

namespace Cert.GemmSilu

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (K : Dev nD × CIx → ℕ)

variable (m : (ℓ : Loc nD τ sig) → Buf (Elt F) ℓ)
variable (ρ : Dev nD → PrngReg)

/-! ## The arrays when the kernel is done -/

/-- The left operand's array ends as it began. -/
theorem end_left (c : Dev nD) : (dats m ρ 0 c).arrAt (0 : Fin 3) cfg0.N = m ((c : Thread nD τ).loc main_arg0) :=
  (dats m ρ 0 c).arrAt_in (0 : Fin 3) rfl _

/-- The right operand's array ends as it began. -/
theorem end_right (c : Dev nD) : (dats m ρ 0 c).arrAt (1 : Fin 3) cfg0.N = m ((c : Thread nD τ).loc main_arg1) :=
  (dats m ρ 0 c).arrAt_in (1 : Fin 3) rfl _

/-- The result's array ends holding what the body left in its stage. -/
theorem end_out (c : Dev nD) : (dats m ρ 0 c).arrAt (2 : Fin 3) cfg0.N = outAt m c := by
  have hr : (win0_2.blk (0 : Fin 1)).view.read (Elt F) ((dats m ρ 0 c).arrAt (2 : Fin 3) cfg0.N) = outAt m c := by
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 (0 : Fin 1), if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans hr

/-- **The run of the whole mesh**: every execution ends with the result array of each device at `outAt`, both operands as
    they began, and every counter at zero. -/
theorem run_kernel : θ_run defs (onTc (τ := τ) (main (F := F))) (s₀ m ρ) fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => ⟨(h.1 c (2 : Fin 3)).trans (end_out m ρ c), (h.1 c (0 : Fin 3)).trans (end_left m ρ c),
    (h.1 c (1 : Fin 3)).trans (end_right m ρ c)⟩, h.2⟩) (run_mesh m ρ)

/-! ## The claims -/

/-- The two printed programs have the same text: their bodies are the same, -/
theorem same_bodies : Cert.Kernel.defs₀ (F := F) = Cert.KernelIdeal.defs₀ := by
  unfold Cert.Kernel.defs₀ Cert.KernelIdeal.defs₀
  refine congrArg Defs.onTc ?_
  funext l a
  match l, a with
  | 0, (t, s) => rfl

/-- and so are their tables. -/
theorem same_defs : Cert.Kernel.defs (F := F) = Cert.KernelIdeal.defs := congrArg _ same_bodies

/-- The kernel on bit patterns ends, with its operands unchanged and its counters at zero: its text is the other's. -/
theorem frame_kernel : Cert.quiescent_Kernel := by
  intro m ρ _
  rw [same_defs]
  exact (θ_run Cert.KernelIdeal.defs _ _).mono (fun _ h => ⟨fun c => (h.1 c).2, h.2⟩) (run_kernel (F := Bits) m ρ)

/-- The kernel on extended reals ends, with its operands unchanged and its counters at zero. -/
theorem frame_ideal : Cert.quiescent_KernelIdeal := fun m ρ _ =>
  (θ_run Cert.KernelIdeal.defs _ _).mono (fun _ h => ⟨fun c => (h.1 c).2, h.2⟩) (run_kernel (F := Ideal) m ρ)

/-- The reference on extended reals ends, with its operands unchanged and its counters at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- **The value**: where each device holds its columns of the left operand and its rows of the right one, the kernel
    leaves on every device the very array that the reference computes of the whole operands. -/
theorem value : Cert.algebraic_KernelIdeal_ReferenceIdeal := by
  intro m ρ m' ρ' _ hag
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).1.trans ?_, (h.1 c).2⟩) (run_kernel (F := Ideal) m ρ)
    exact outAt_eq_refOut m _ _ (fun d => (hag d).1) (fun d => (hag d).2) c
  · exact (θ_run Cert.ReferenceIdeal.defs _ _).mono (fun _ h => h 0) (Cert.ReferenceIdeal.Value.run (F := Ideal) m' ρ')

end Cert.GemmSilu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.GemmSilu.frame_kernel, Cert.GemmSilu.frame_ideal, Cert.GemmSilu.frame_reference, trivial, Cert.GemmSilu.value⟩

end Cert.Proof

end
